-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_NormFreeIdeal (m : (ℓ : Loc Cert.NormFreeIdeal.nD Cert.NormFreeIdeal.τ Cert.NormFreeIdeal.sig) → Buf (Elt Ideal) ℓ) : Prop :=
  True

def Pre_NormFreeIdeal_finite [hPre_finite : Cert.Pre_finite.Facts] (m : (ℓ : Loc Cert.NormFreeIdeal.nD Cert.NormFreeIdeal.τ Cert.NormFreeIdeal.sig) → Buf (Elt Ideal) ℓ) : Prop :=
  ∀ c : Dev Cert.NormFreeIdeal.nD,
    (Cert.Pre_finite.fn (F := Ideal) (m ((c.tc : Thread Cert.NormFreeIdeal.nD Cert.NormFreeIdeal.τ).loc Cert.NormFreeIdeal.main_arg0)) (m ((c.tc : Thread Cert.NormFreeIdeal.nD Cert.NormFreeIdeal.τ).loc Cert.NormFreeIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_NormFreeIdeal [hNormFreeIdeal : Cert.NormFreeIdeal.Facts] : Prop :=
  ∀ (m : (ℓ : Loc Cert.NormFreeIdeal.nD Cert.NormFreeIdeal.τ Cert.NormFreeIdeal.sig) → Buf (Elt Ideal) ℓ) (g : Dev Cert.NormFreeIdeal.nD → PrngReg), Pre_NormFreeIdeal m →
    θ_run (Cert.NormFreeIdeal.defs (F := Ideal)) (onTc (τ := Cert.NormFreeIdeal.τ) (Cert.NormFreeIdeal.main (F := Ideal))) ⟨m, fun _ => 0, g⟩ (fun r => (∀ c : Dev Cert.NormFreeIdeal.nD,
      r.2.mem ((c.tc : Thread Cert.NormFreeIdeal.nD Cert.NormFreeIdeal.τ).loc Cert.NormFreeIdeal.main_arg0) = m ((c.tc : Thread Cert.NormFreeIdeal.nD Cert.NormFreeIdeal.τ).loc Cert.NormFreeIdeal.main_arg0)
      ∧ r.2.mem ((c.tc : Thread Cert.NormFreeIdeal.nD Cert.NormFreeIdeal.τ).loc Cert.NormFreeIdeal.main_arg1) = m ((c.tc : Thread Cert.NormFreeIdeal.nD Cert.NormFreeIdeal.τ).loc Cert.NormFreeIdeal.main_arg1))
      ∧ r.2.sem = fun _ => 0)

def quiescent_NormFreeIdeal_pre_finite [hNormFreeIdeal : Cert.NormFreeIdeal.Facts] [hPre_finite : Cert.Pre_finite.Facts] : Prop :=
  ∀ (m : (ℓ : Loc Cert.NormFreeIdeal.nD Cert.NormFreeIdeal.τ Cert.NormFreeIdeal.sig) → Buf (Elt Ideal) ℓ) (g : Dev Cert.NormFreeIdeal.nD → PrngReg), Pre_NormFreeIdeal_finite m →
    θ_run (Cert.NormFreeIdeal.defs (F := Ideal)) (onTc (τ := Cert.NormFreeIdeal.τ) (Cert.NormFreeIdeal.main (F := Ideal))) ⟨m, fun _ => 0, g⟩ (fun r => (∀ c : Dev Cert.NormFreeIdeal.nD,
      r.2.mem ((c.tc : Thread Cert.NormFreeIdeal.nD Cert.NormFreeIdeal.τ).loc Cert.NormFreeIdeal.main_arg0) = m ((c.tc : Thread Cert.NormFreeIdeal.nD Cert.NormFreeIdeal.τ).loc Cert.NormFreeIdeal.main_arg0)
      ∧ r.2.mem ((c.tc : Thread Cert.NormFreeIdeal.nD Cert.NormFreeIdeal.τ).loc Cert.NormFreeIdeal.main_arg1) = m ((c.tc : Thread Cert.NormFreeIdeal.nD Cert.NormFreeIdeal.τ).loc Cert.NormFreeIdeal.main_arg1))
      ∧ r.2.sem = fun _ => 0)

def preserves_Kernel_KernelIdeal : Prop :=
  True

def algebraic_KernelIdeal_ReferenceIdeal_on_clear_pre_finite [hKernelIdeal : Cert.KernelIdeal.Facts] [hReferenceIdeal : Cert.ReferenceIdeal.Facts] [hPre_finite : Cert.Pre_finite.Facts] [hOn_clear : Cert.On_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 1, 1024]⟩ : Shape).Idx, (Cert.On_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 1, 1024]⟩ : Shape).Idx, (Cert.On_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v17) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_NormFreeIdeal_on_nonneg_pre_finite [hKernelIdeal : Cert.KernelIdeal.Facts] [hNormFreeIdeal : Cert.NormFreeIdeal.Facts] [hPre_finite : Cert.Pre_finite.Facts] [hOn_nonneg : Cert.On_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.NormFreeIdeal.nD Cert.NormFreeIdeal.τ Cert.NormFreeIdeal.sig) → Buf (Elt Ideal) ℓ) (g' : Dev Cert.NormFreeIdeal.nD → PrngReg), Pre_KernelIdeal_finite m →
    (∀ c : Dev Cert.KernelIdeal.nD,
      m' ((c.tc : Thread Cert.NormFreeIdeal.nD Cert.NormFreeIdeal.τ).loc Cert.NormFreeIdeal.main_arg0) = m ((c.tc : Thread Cert.KernelIdeal.nD Cert.KernelIdeal.τ).loc Cert.KernelIdeal.main_arg0)
      ∧ m' ((c.tc : Thread Cert.NormFreeIdeal.nD Cert.NormFreeIdeal.τ).loc Cert.NormFreeIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 1, 1024]⟩ : Shape).Idx, (Cert.On_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.NormFreeIdeal.defs (F := Ideal)) (onTc (τ := Cert.NormFreeIdeal.τ) (Cert.NormFreeIdeal.main (F := Ideal))) ⟨m', fun _ => 0, g'⟩ (fun r => ∀ c : Dev Cert.NormFreeIdeal.nD,
          (∀ i : (⟨3, ![16, 1, 1024]⟩ : Shape).Idx, (Cert.On_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.NormFreeIdeal.nD Cert.NormFreeIdeal.τ).loc Cert.NormFreeIdeal.main_v12) i = v0 c i)
          ∧ r.2.mem ((c.tc : Thread Cert.NormFreeIdeal.nD Cert.NormFreeIdeal.τ).loc Cert.NormFreeIdeal.main_arg0) = m' ((c.tc : Thread Cert.NormFreeIdeal.nD Cert.NormFreeIdeal.τ).loc Cert.NormFreeIdeal.main_arg0)
          ∧ r.2.mem ((c.tc : Thread Cert.NormFreeIdeal.nD Cert.NormFreeIdeal.τ).loc Cert.NormFreeIdeal.main_arg1) = m' ((c.tc : Thread Cert.NormFreeIdeal.nD Cert.NormFreeIdeal.τ).loc Cert.NormFreeIdeal.main_arg1))

def Claim : Prop :=
  ∃ (hKernel : Cert.Kernel.Facts) (hKernelIdeal : Cert.KernelIdeal.Facts) (hReferenceIdeal : Cert.ReferenceIdeal.Facts) (hNormFreeIdeal : Cert.NormFreeIdeal.Facts) (hPre_finite : Cert.Pre_finite.Facts) (hOn_clear : Cert.On_clear.Facts) (hOn_nonneg : Cert.On_nonneg.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_NormFreeIdeal (hNormFreeIdeal := hNormFreeIdeal)
    ∧ quiescent_NormFreeIdeal_pre_finite (hNormFreeIdeal := hNormFreeIdeal) (hPre_finite := hPre_finite)
    ∧ preserves_Kernel_KernelIdeal
    ∧ algebraic_KernelIdeal_ReferenceIdeal_on_clear_pre_finite (hKernelIdeal := hKernelIdeal) (hReferenceIdeal := hReferenceIdeal) (hPre_finite := hPre_finite) (hOn_clear := hOn_clear)
    ∧ algebraic_KernelIdeal_NormFreeIdeal_on_nonneg_pre_finite (hKernelIdeal := hKernelIdeal) (hNormFreeIdeal := hNormFreeIdeal) (hPre_finite := hPre_finite) (hOn_nonneg := hOn_nonneg)
-- ==== On_clear.lean ====
abbrev S16x256x1024 : Shape := ⟨3, ![16, 256, 1024]⟩
abbrev S8192x256 : Shape := ⟨2, ![8192, 256]⟩
abbrev S16x1024x256 : Shape := ⟨3, ![16, 1024, 256]⟩
abbrev S16384x256 : Shape := ⟨2, ![16384, 256]⟩
abbrev S256x8192 : Shape := ⟨2, ![256, 8192]⟩
abbrev S16384x8192 : Shape := ⟨2, ![16384, 8192]⟩
abbrev S_ : Shape := ⟨0, ![]⟩
abbrev S16384 : Shape := ⟨1, ![16384]⟩
abbrev S8192 : Shape := ⟨1, ![8192]⟩
abbrev S16x1x1024 : Shape := ⟨3, ![16, 1, 1024]⟩

class Facts : Prop where
  transposes_S16x256x1024_S16x1024x256_0_2_1 : S16x256x1024.Transposes [0, 2, 1] S16x1024x256
  shapeCasts_S16x1024x256_S16384x256 : S16x1024x256.ShapeCasts S16384x256
  transposes_S8192x256_S256x8192_1_0 : S8192x256.Transposes [1, 0] S256x8192
  bcast_S_S16384x8192 : S_.BroadcastsInDim S16384x8192 (![] : Fin 0 → Fin S16384x8192.rank)
  reducesTo_S16384x8192_S16384_d1 : S16384x8192.ReducesTo [1] S16384
  h_S_ : 0 < S_.numel
  reducesTo_S8192x256_S8192_d1 : S8192x256.ReducesTo [1] S8192
  reducesTo_S8192_S_d0 : S8192.ReducesTo [0] S_
  bcast_S_S16384 : S_.BroadcastsInDim S16384 (![] : Fin 0 → Fin S16384.rank)
  bcast_S16384_S16384x8192_0 : S16384.BroadcastsInDim S16384x8192 (![0] : Fin 1 → Fin S16384x8192.rank)
  shapeCasts_S16384_S16x1x1024 : S16384.ShapeCasts S16x1x1024
  dot_S16384x256_S256x8192_S16384x8192_1_0_0_1_n_n_wf : DotDims.WF S16384x256 S256x8192 S16384x8192 [1] [0] [0] [1] [] []

variable [Facts]

def dot_S16384x256_S256x8192_S16384x8192_1_0_0_1_n_n : DotDims S16384x256 S256x8192 S16384x8192 where
  lhsContracting := [1]
  rhsContracting := [0]
  lhsNonContracting := [0]
  rhsNonContracting := [1]
  lhsBatch := []
  rhsBatch := []
  wf := dot_S16384x256_S256x8192_S16384x8192_1_0_0_1_n_n_wf
def fn_part1 {F : FTy → Type} [FloatOps F] (main_v6 : FVec F S16384 .f32) (main_v11 : FVec F S_ .f32) (main_v15 : IVec S16384x8192 1) (main_v16 : FVec F S16384x8192 .f32) (main_cst_5 : FVec F S_ .f32) : IVec S16x1x1024 1 :=
  let main_v17 : FVec F S16384x8192 .f32 := broadcastInDim S16384x8192 ![] bcast_S_S16384x8192 main_cst_5
  let main_v18 : FVec F S16384x8192 .f32 := select main_v15 main_v16 main_v17
  let main_v19 : FVec F S16384x8192 .f32 := id main_v18
  let main_cst_6 : FVec F S_ .f32 := constant S_ .f32 0x00000000#32
  let main_v20 : FVec F S16384 .f32 := (fun x v => Host.reduceAdd x v reducesTo_S16384x8192_S16384_d1 h_S_) main_v19 main_cst_6
  let main_cst_7 : FVec F S_ .f32 := constant S_ .f32 0x00000000#32
  let main_v21 : FVec F S16384 .f32 := broadcastInDim S16384 ![] bcast_S_S16384 main_cst_7
  let main_v22 : IVec S16384 1 := cmpf .ole main_v6 main_v21
  let main_cst_8 : FVec F S_ .f32 := constant S_ .f32 0x00000000#32
  let main_v23 : IVec S_ 1 := cmpf .oeq main_v11 main_cst_8
  let main_cst_9 : FVec F S_ .f32 := constant S_ .f32 0x3F800000#32
  let main_v24 : FVec F S16384 .f32 := broadcastInDim S16384 ![] bcast_S_S16384 main_cst_9
  let main_v25 : IVec S16384 1 := cmpf .oeq main_v20 main_v24
  let main_v26 : IVec S16384 1 := broadcastInDim S16384 ![] bcast_S_S16384 main_v23
  let main_v27 : IVec S16384 1 := ori main_v26 main_v25
  let main_v28 : IVec S16384 1 := andi main_v22 main_v27
  let main_v29 : IVec S16x1x1024 1 := shapeCast S16x1x1024 main_v28 shapeCasts_S16384_S16x1x1024
  main_v29

def fn {F : FTy → Type} [FloatOps F] (main_arg0 : FVec F S16x256x1024 .f32) (main_arg1 : FVec F S8192x256 .f32) : IVec S16x1x1024 1 :=
  let main_v0 : FVec F S16x1024x256 .f32 := (transpose S16x1024x256 [0, 2, 1] · transposes_S16x256x1024_S16x1024x256_0_2_1) main_arg0
  let main_v1 : FVec F S16384x256 .f32 := shapeCast S16384x256 main_v0 shapeCasts_S16x1024x256_S16384x256
  let main_v2 : FVec F S256x8192 .f32 := (transpose S256x8192 [1, 0] · transposes_S8192x256_S256x8192_1_0) main_arg1
  let main_v3 : FVec F S16384x8192 .f32 := (fun l r => Host.dotGeneral dot_S16384x256_S256x8192_S16384x8192_1_0_0_1_n_n none l r) main_v1 main_v2
  let main_cst : FVec F S_ .f32 := constant S_ .f32 0xC0000000#32
  let main_v4 : FVec F S16384x8192 .f32 := broadcastInDim S16384x8192 ![] bcast_S_S16384x8192 main_cst
  let main_v5 : FVec F S16384x8192 .f32 := mulf main_v3 main_v4
  let main_cst_0 : FVec F S_ .f32 := constant S_ .f32 0x7F800000#32
  let main_v6 : FVec F S16384 .f32 := (fun x v => Host.reduce FloatOps.minimumf x v reducesTo_S16384x8192_S16384_d1 h_S_) main_v5 main_cst_0
  let main_v7 : FVec F S8192x256 .f32 := mulf main_arg1 main_arg1
  let main_cst_1 : FVec F S_ .f32 := constant S_ .f32 0x00000000#32
  let main_v8 : FVec F S8192 .f32 := (fun x v => Host.reduceAdd x v reducesTo_S8192x256_S8192_d1 h_S_) main_v7 main_cst_1
  let main_cst_2 : FVec F S_ .f32 := constant S_ .f32 0xFF800000#32
  let main_v9 : FVec F S_ .f32 := (fun x v => Host.reduce FloatOps.maximumf x v reducesTo_S8192_S_d0 h_S_) main_v8 main_cst_2
  let main_cst_3 : FVec F S_ .f32 := constant S_ .f32 0x7F800000#32
  let main_v10 : FVec F S_ .f32 := (fun x v => Host.reduce FloatOps.minimumf x v reducesTo_S8192_S_d0 h_S_) main_v8 main_cst_3
  let main_v11 : FVec F S_ .f32 := subf main_v9 main_v10
  let main_v12 : FVec F S16384 .f32 := broadcastInDim S16384 ![] bcast_S_S16384 main_v11
  let main_v13 : FVec F S16384 .f32 := addf main_v6 main_v12
  let main_v14 : FVec F S16384x8192 .f32 := broadcastInDim S16384x8192 ![0] bcast_S16384_S16384x8192_0 main_v13
  let main_v15 : IVec S16384x8192 1 := cmpf .ole main_v5 main_v14
  let main_cst_4 : FVec F S_ .f32 := constant S_ .f32 0x3F800000#32
  let main_v16 : FVec F S16384x8192 .f32 := broadcastInDim S16384x8192 ![] bcast_S_S16384x8192 main_cst_4
  let main_cst_5 : FVec F S_ .f32 := constant S_ .f32 0x00000000#32
  fn_part1 (F := F) main_v6 main_v11 main_v15 main_v16 main_cst_5
-- ==== On_nonneg.lean ====
abbrev S16x256x1024 : Shape := ⟨3, ![16, 256, 1024]⟩
abbrev S8192x256 : Shape := ⟨2, ![8192, 256]⟩
abbrev S16x1024x256 : Shape := ⟨3, ![16, 1024, 256]⟩
abbrev S16384x256 : Shape := ⟨2, ![16384, 256]⟩
abbrev S256x8192 : Shape := ⟨2, ![256, 8192]⟩
abbrev S16384x8192 : Shape := ⟨2, ![16384, 8192]⟩
abbrev S_ : Shape := ⟨0, ![]⟩
abbrev S16384 : Shape := ⟨1, ![16384]⟩
abbrev S16x1x1024 : Shape := ⟨3, ![16, 1, 1024]⟩

class Facts : Prop where
  transposes_S16x256x1024_S16x1024x256_0_2_1 : S16x256x1024.Transposes [0, 2, 1] S16x1024x256
  shapeCasts_S16x1024x256_S16384x256 : S16x1024x256.ShapeCasts S16384x256
  transposes_S8192x256_S256x8192_1_0 : S8192x256.Transposes [1, 0] S256x8192
  bcast_S_S16384x8192 : S_.BroadcastsInDim S16384x8192 (![] : Fin 0 → Fin S16384x8192.rank)
  reducesTo_S16384x8192_S16384_d1 : S16384x8192.ReducesTo [1] S16384
  h_S_ : 0 < S_.numel
  bcast_S_S16384 : S_.BroadcastsInDim S16384 (![] : Fin 0 → Fin S16384.rank)
  shapeCasts_S16384_S16x1x1024 : S16384.ShapeCasts S16x1x1024
  dot_S16384x256_S256x8192_S16384x8192_1_0_0_1_n_n_wf : DotDims.WF S16384x256 S256x8192 S16384x8192 [1] [0] [0] [1] [] []

variable [Facts]

def dot_S16384x256_S256x8192_S16384x8192_1_0_0_1_n_n : DotDims S16384x256 S256x8192 S16384x8192 where
  lhsContracting := [1]
  rhsContracting := [0]
  lhsNonContracting := [0]
  rhsNonContracting := [1]
  lhsBatch := []
  rhsBatch := []
  wf := dot_S16384x256_S256x8192_S16384x8192_1_0_0_1_n_n_wf
def fn {F : FTy → Type} [FloatOps F] (main_arg0 : FVec F S16x256x1024 .f32) (main_arg1 : FVec F S8192x256 .f32) : IVec S16x1x1024 1 :=
  let main_v0 : FVec F S16x1024x256 .f32 := (transpose S16x1024x256 [0, 2, 1] · transposes_S16x256x1024_S16x1024x256_0_2_1) main_arg0
  let main_v1 : FVec F S16384x256 .f32 := shapeCast S16384x256 main_v0 shapeCasts_S16x1024x256_S16384x256
  let main_v2 : FVec F S256x8192 .f32 := (transpose S256x8192 [1, 0] · transposes_S8192x256_S256x8192_1_0) main_arg1
  let main_v3 : FVec F S16384x8192 .f32 := (fun l r => Host.dotGeneral dot_S16384x256_S256x8192_S16384x8192_1_0_0_1_n_n none l r) main_v1 main_v2
  let main_cst : FVec F S_ .f32 := constant S_ .f32 0xC0000000#32
  let main_v4 : FVec F S16384x8192 .f32 := broadcastInDim S16384x8192 ![] bcast_S_S16384x8192 main_cst
  let main_v5 : FVec F S16384x8192 .f32 := mulf main_v3 main_v4
  let main_cst_0 : FVec F S_ .f32 := constant S_ .f32 0x7F800000#32
  let main_v6 : FVec F S16384 .f32 := (fun x v => Host.reduce FloatOps.minimumf x v reducesTo_S16384x8192_S16384_d1 h_S_) main_v5 main_cst_0
  let main_cst_1 : FVec F S_ .f32 := constant S_ .f32 0x00000000#32
  let main_v7 : FVec F S16384 .f32 := broadcastInDim S16384 ![] bcast_S_S16384 main_cst_1
  let main_v8 : IVec S16384 1 := cmpf .ole main_v6 main_v7
  let main_v9 : IVec S16x1x1024 1 := shapeCast S16x1x1024 main_v8 shapeCasts_S16384_S16x1x1024
  main_v9
-- ==== Pre_finite.lean ====
abbrev S16x256x1024 : Shape := ⟨3, ![16, 256, 1024]⟩
abbrev S8192x256 : Shape := ⟨2, ![8192, 256]⟩
abbrev S_ : Shape := ⟨0, ![]⟩

class Facts : Prop where
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S16x256x1024 .f32) (main_arg1 : FVec F S8192x256 .f32) : IVec S_ 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_c : IVec S_ 1 := constantI S_ 1 1#1
  let main_v3 : IVec S_ 1 := (fun x v => Host.reduce IntOp.andi x v reducesTo_S16x256x1024_S_d0_1_2 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S16x256x1024 : Shape := ⟨3, ![16, 256, 1024]⟩
abbrev S8192x256 : Shape := ⟨2, ![8192, 256]⟩
abbrev S_ : Shape := ⟨0, ![]⟩
abbrev S8208x256 : Shape := ⟨2, ![8208, 256]⟩
abbrev S16x1x1024 : Shape := ⟨3, ![16, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S1x1024 : Shape := ⟨2, ![1, 1024]⟩
abbrev S2736x1024 : Shape := ⟨2, ![2736, 1024]⟩
abbrev S1024 : Shape := ⟨1, ![1024]⟩
abbrev S2736x256 : Shape := ⟨2, ![2736, 256]⟩
abbrev S688x1024 : Shape := ⟨2, ![688, 1024]⟩
abbrev S672x1024 : Shape := ⟨2, ![672, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16x256x1024, .f32⟩
  | .hbm, ⟨1, _⟩ => ⟨S8192x256, .f32⟩
  | .hbm, ⟨2, _⟩ => ⟨S_, .i32⟩
  | .hbm, ⟨3, _⟩ => ⟨S_, .f32⟩
  | .hbm, ⟨4, _⟩ => ⟨S8208x256, .f32⟩
  | .hbm, ⟨5, _⟩ => ⟨S16x1x1024, .i32⟩
  | .local _ .vmem, ⟨0, _⟩ => ⟨S1x256x1024, .f32⟩
  | .local _ .vmem, ⟨1, _⟩ => ⟨S1x256x1024, .f32⟩
  | .local _ .vmem, ⟨2, _⟩ => ⟨S8208x256, .f32⟩
  | .local _ .vmem, ⟨3, _⟩ => ⟨S1x1x1024, .i32⟩
  | .local _ .vmem, ⟨4, _⟩ => ⟨S1x1x1024, .i32⟩
  | .local _ .vmem, ⟨5, _⟩ => ⟨S256x1024, .f32⟩
  | .local _ .vmem, ⟨6, _⟩ => ⟨S1x1024, .f32⟩
  | .local _ .vmem, ⟨7, _⟩ => ⟨S2736x1024, .f32⟩
  | .local _ .vmem, ⟨8, _⟩ => ⟨S1x1024, .f32⟩
  | .local _ .vmem, ⟨9, _⟩ => ⟨S1x1024, .i32⟩
  | .local _ .vmem, ⟨10, _⟩ => ⟨S1x1024, .bf16⟩
  | .local _ .vmem, ⟨11, _⟩ => ⟨S1x1024, .i32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 3, 1], ![false, false, false]⟩

def k0_off1 (i : grid0.Coords) : Fin 2 → Nat :=
  let arg1 : BitVec 32 := BitVec.ofNat 32 (i 1).val
  let c2736_i32 : BitVec 32 := 2736#32
  let v12 : BitVec 32 := Scalar.muli arg1 c2736_i32
  let arg2 : BitVec 32 := BitVec.ofNat 32 (i 2).val
  let c2736_i32_6 : BitVec 32 := 2736#32
  let v13 : BitVec 32 := Scalar.muli arg2 c2736_i32_6
  let v14 : BitVec 32 := Scalar.addi v12 v13
  let v15 : Index := Scalar.indexCast v14
  let c0 : Index := 0#32
  ![v15.toNat, 0]
def k0_cond7 (i : grid0.Coords) : BitVec 1 :=
  let arg2 : BitVec 32 := BitVec.ofNat 32 (i 2).val
  let c0_i32_51 : BitVec 32 := 0#32
  let v159 : BitVec 1 := Scalar.cmpi .eq arg2 c0_i32_51
  let arg1 : BitVec 32 := BitVec.ofNat 32 (i 1).val
  let c2_i32 : BitVec 32 := 2#32
  let v160 : BitVec 1 := Scalar.cmpi .eq arg1 c2_i32
  let v161 : BitVec 1 := Scalar.andi v159 v160
  let v162 : BitVec 32 := Scalar.extui v161
  let c0_i32_52 : BitVec 32 := 0#32
  let v163 : BitVec 1 := Scalar.cmpi .ne v162 c0_i32_52
  v163

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8208x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceIdeal.lean ====
abbrev S16x256x1024 : Shape := ⟨3, ![16, 256, 1024]⟩
abbrev S8192x256 : Shape := ⟨2, ![8192, 256]⟩
abbrev S16x1024x256 : Shape := ⟨3, ![16, 1024, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S256x8192 : Shape := ⟨2, ![256, 8192]⟩
abbrev S16384x8192 : Shape := ⟨2, ![16384, 8192]⟩
abbrev S1x8192 : Shape := ⟨2, ![1, 8192]⟩
abbrev S16x1x1024 : Shape := ⟨3, ![16, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S8192x256, .f32⟩
  | .hbm, ⟨2, _⟩ => ⟨S16x1024x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S256x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S16384x8192, .f32⟩
  | .hbm, ⟨17, _⟩ => ⟨S16384x8192, .f32⟩
  | .hbm, ⟨18, _⟩ => ⟨S1x8192, .f32⟩
  | .hbm, ⟨19, _⟩ => ⟨S16384x8192, .f32⟩
  | .hbm, ⟨20, _⟩ => ⟨S16384x8192, .f32⟩
  | .hbm, ⟨21, _⟩ => ⟨S16384x8192, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16x1x1024, .i32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== NormFreeIdeal.lean ====
abbrev S16x256x1024 : Shape := ⟨3, ![16, 256, 1024]⟩
abbrev S8192x256 : Shape := ⟨2, ![8192, 256]⟩
abbrev S16x1024x256 : Shape := ⟨3, ![16, 1024, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S256x8192 : Shape := ⟨2, ![256, 8192]⟩
abbrev S16384x8192 : Shape := ⟨2, ![16384, 8192]⟩
abbrev S16x1x1024 : Shape := ⟨3, ![16, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S8192x256, .f32⟩
  | .hbm, ⟨2, _⟩ => ⟨S16x1024x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S256x8192, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S16384x8192, .i32⟩
  | .hbm, ⟨16, _⟩ => ⟨S_, .f32⟩
  | .hbm, ⟨17, _⟩ => ⟨S_, .i32⟩
  | .hbm, ⟨18, _⟩ => ⟨S16384, .f32⟩
  | .hbm, ⟨19, _⟩ => ⟨S16384, .i32⟩
  | .hbm, ⟨20, _⟩ => ⟨S16x1x1024, .i32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_cst : Ref sig .tc := ⟨.hbm, 16, rfl⟩
abbrev main_call0_c : Ref sig .tc := ⟨.hbm, 17, rfl⟩
abbrev main_call0_v1_0 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Proof.RefRun.lean ====
/-
  The runs of the two reference programs. Each is a straight line of array operations, its call of the argmin helper
  included, so what it leaves is the composition of those operations: `result` of its two arguments.
-/
module

public import proofs.«01_k».proof.Proof.Gen.ReferenceIdeal
public import proofs.«01_k».proof.Proof.Gen.NormFreeIdeal
public import Idealize.ShloMosaic.Lib.StableHlo.Run
public import Idealize.ShloMosaic.Lib.Quiescent

@[expose] public section

noncomputable section

open Idealize.ShloMosaic Idealize.ShloMosaic.TcCoe Idealize.ShloMosaic.StableHlo Idealize.SL.Sem

/-! ## The reference with the code norms -/

namespace Cert.ReferenceIdeal.Hand

open Cert.ReferenceIdeal Cert.ReferenceIdeal.Gen

variable {F : FTy → Type} [FloatOps F]

/-- The program's operations, in the order it runs them; the four before the last are its call of the argmin helper. -/
abbrev ops : List (HloOp τ sig (Elt F)) :=
  [ unary main_arg0 main_v0 (transpose S16x1024x256 [0, 2, 1] · transposes_S16x256x1024_S16x1024x256_0_2_1),
    reshape main_v0 main_v1 (rfl : (.f32 : EltTy) = .f32) shapeCasts_S16x1024x256_S16384x256,
    binary main_v1 main_v1 main_v2 mulf,
    nullary main_cst (constant S_ .f32 0x00000000#32),
    binary main_v2 main_cst main_v3 (fun x v => Host.reduceAdd x v reducesTo_S16384x256_S16384_d1 h_S_),
    unary main_v3 main_v4 (broadcastInDim S16384x1 ![0] bcast_S16384_S16384x1_0),
    binary main_arg1 main_arg1 main_v5 mulf,
    nullary main_cst_0 (constant S_ .f32 0x00000000#32),
    binary main_v5 main_cst_0 main_v6 (fun x v => Host.reduceAdd x v reducesTo_S8192x256_S8192_d1 h_S_),
    unary main_arg1 main_v7 (transpose S256x8192 [1, 0] · transposes_S8192x256_S256x8192_1_0),
    binary main_v1 main_v7 main_v8 (fun l r => Host.dotGeneral dot_S16384x256_S256x8192_S16384x8192_1_0_0_1_n_n none l r),
    nullary main_cst_1 (constant S_ .f32 0x40000000#32),
    unary main_cst_1 main_v9 (broadcastInDim S16384x8192 ![] bcast_S_S16384x8192),
    binary main_v9 main_v8 main_v10 mulf,
    unary main_v4 main_v11 (broadcastInDim S16384x8192 ![0, 1] bcast_S16384x1_S16384x8192_0_1),
    binary main_v11 main_v10 main_v12 subf,
    unary main_v6 main_v13 (broadcastInDim S1x8192 ![1] bcast_S8192_S1x8192_1),
    unary main_v13 main_v14 (broadcastInDim S16384x8192 ![0, 1] bcast_S1x8192_S16384x8192_0_1),
    binary main_v12 main_v14 main_v15 addf,
    nullary main_call0_v0 (iotaInDim S16384x8192 32 1),
    nullary main_call0_cst (constant S_ .f32 0x7F800000#32),
    nullary main_call0_c (constantI S_ 32 0#32),
    quaternary main_v15 main_call0_v0 main_call0_cst main_call0_c main_call0_v1_0
      (fun x y u v j => (Host.argReduce reducer_argmin_f32_i32 x y u v reducesTo_S16384x8192_S16384_d1 h_S_ j).1),
    quaternary main_v15 main_call0_v0 main_call0_cst main_call0_c main_v16
      (fun x y u v j => (Host.argReduce reducer_argmin_f32_i32 x y u v reducesTo_S16384x8192_S16384_d1 h_S_ j).2),
    reshape main_v16 main_v17 (rfl : (.i32 : EltTy) = .i32) shapeCasts_S16384_S16x1x1024 ]

/-- The program is this straight line. -/
theorem main_eq (c : Dev nD) : main (F := F) c = seq ops := rfl

/-- The frames as rows: batch and frame together index a row of 256 features. -/
def rows (z : Vec F S16x256x1024 .f32) : Vec F S16384x256 .f32 :=
  shapeCast S16384x256 (transpose S16x1024x256 [0, 2, 1] z transposes_S16x256x1024_S16x1024x256_0_2_1)
    shapeCasts_S16x1024x256_S16384x256

/-- The score of every row against every code. -/
def dist (z : Vec F S16x256x1024 .f32) (e : Vec F S8192x256 .f32) : Vec F S16384x8192 .f32 :=
  addf (subf
      (broadcastInDim S16384x8192 ![0, 1] bcast_S16384x1_S16384x8192_0_1
        (broadcastInDim S16384x1 ![0] bcast_S16384_S16384x1_0
          (Host.reduceAdd (mulf (rows z) (rows z)) (constant S_ .f32 0x00000000#32) reducesTo_S16384x256_S16384_d1 h_S_)))
      (mulf (broadcastInDim S16384x8192 ![] bcast_S_S16384x8192 (constant S_ .f32 0x40000000#32))
        (Host.dotGeneral dot_S16384x256_S256x8192_S16384x8192_1_0_0_1_n_n none (rows z)
          (transpose S256x8192 [1, 0] e transposes_S8192x256_S256x8192_1_0))))
    (broadcastInDim S16384x8192 ![0, 1] bcast_S1x8192_S16384x8192_0_1
      (broadcastInDim S1x8192 ![1] bcast_S8192_S1x8192_1
        (Host.reduceAdd (mulf e e) (constant S_ .f32 0x00000000#32) reducesTo_S8192x256_S8192_d1 h_S_)))

/-- The code numbers the program ends with. -/
def result (z : Vec F S16x256x1024 .f32) (e : Vec F S8192x256 .f32) : Vec F S16x1x1024 .i32 :=
  shapeCast S16x1x1024
    (fun j => (Host.argReduce reducer_argmin_f32_i32 (dist z e) (iotaInDim S16384x8192 32 1)
      (constant S_ .f32 0x7F800000#32) (constantI S_ 32 0#32) reducesTo_S16384x8192_S16384_d1 h_S_ j).2)
    shapeCasts_S16384_S16x1x1024

/-- What the line leaves in the result buffer. -/
theorem out_eq (V : Valuation τ sig (Elt F)) :
    after ops V (main_v17 : DevRef τ sig) = result (V (main_arg0 : DevRef τ sig)) (V (main_arg1 : DevRef τ sig)) := by
  after_results
  unfold result dist rows
  refine funext fun i => ?_
  dsimp only
  rfl

/-- The line writes neither argument. -/
theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the TensorCore alone. -/
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., nullary_bufs_sub .., quaternary_bufs_sub .., quaternary_bufs_sub .., reshape_bufs_sub ..⟩

/-- Every execution ends, with the result buffer at `result` of the arguments and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
      ⟨(h c main_v17).trans (out_eq _), (h c main_arg0).trans (arg0_eq _), (h c main_arg1).trans (arg1_eq _)⟩)
    (run_seq scopedRefs_eq scopedSems_eq defs main (fun _ => ops) main_eq (fun _ => ops_sub) m ρ)

/-- The run with its counters: none is declared, so all read zero at the end. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

end Cert.ReferenceIdeal.Hand

/-! ## The reference without them -/

namespace Cert.NormFreeIdeal.Hand

open Cert.NormFreeIdeal Cert.NormFreeIdeal.Gen

variable {F : FTy → Type} [FloatOps F]

/-- The program's operations, in the order it runs them; the four before the last are its call of the argmin helper. -/
abbrev ops : List (HloOp τ sig (Elt F)) :=
  [ unary main_arg0 main_v0 (transpose S16x1024x256 [0, 2, 1] · transposes_S16x256x1024_S16x1024x256_0_2_1),
    reshape main_v0 main_v1 (rfl : (.f32 : EltTy) = .f32) shapeCasts_S16x1024x256_S16384x256,
    binary main_v1 main_v1 main_v2 mulf,
    nullary main_cst (constant S_ .f32 0x00000000#32),
    binary main_v2 main_cst main_v3 (fun x v => Host.reduceAdd x v reducesTo_S16384x256_S16384_d1 h_S_),
    unary main_v3 main_v4 (broadcastInDim S16384x1 ![0] bcast_S16384_S16384x1_0),
    unary main_arg1 main_v5 (transpose S256x8192 [1, 0] · transposes_S8192x256_S256x8192_1_0),
    binary main_v1 main_v5 main_v6 (fun l r => Host.dotGeneral dot_S16384x256_S256x8192_S16384x8192_1_0_0_1_n_n none l r),
    nullary main_cst_0 (constant S_ .f32 0x40000000#32),
    unary main_cst_0 main_v7 (broadcastInDim S16384x8192 ![] bcast_S_S16384x8192),
    binary main_v7 main_v6 main_v8 mulf,
    unary main_v4 main_v9 (broadcastInDim S16384x8192 ![0, 1] bcast_S16384x1_S16384x8192_0_1),
    binary main_v9 main_v8 main_v10 subf,
    nullary main_call0_v0 (iotaInDim S16384x8192 32 1),
    nullary main_call0_cst (constant S_ .f32 0x7F800000#32),
    nullary main_call0_c (constantI S_ 32 0#32),
    quaternary main_v10 main_call0_v0 main_call0_cst main_call0_c main_call0_v1_0
      (fun x y u v j => (Host.argReduce reducer_argmin_f32_i32 x y u v reducesTo_S16384x8192_S16384_d1 h_S_ j).1),
    quaternary main_v10 main_call0_v0 main_call0_cst main_call0_c main_v11
      (fun x y u v j => (Host.argReduce reducer_argmin_f32_i32 x y u v reducesTo_S16384x8192_S16384_d1 h_S_ j).2),
    reshape main_v11 main_v12 (rfl : (.i32 : EltTy) = .i32) shapeCasts_S16384_S16x1x1024 ]

/-- The program is this straight line. -/
theorem main_eq (c : Dev nD) : main (F := F) c = seq ops := rfl

/-- The frames as rows: batch and frame together index a row of 256 features. -/
def rows (z : Vec F S16x256x1024 .f32) : Vec F S16384x256 .f32 :=
  shapeCast S16384x256 (transpose S16x1024x256 [0, 2, 1] z transposes_S16x256x1024_S16x1024x256_0_2_1)
    shapeCasts_S16x1024x256_S16384x256

/-- The score of every row against every code. -/
def dist (z : Vec F S16x256x1024 .f32) (e : Vec F S8192x256 .f32) : Vec F S16384x8192 .f32 :=
  subf
    (broadcastInDim S16384x8192 ![0, 1] bcast_S16384x1_S16384x8192_0_1
      (broadcastInDim S16384x1 ![0] bcast_S16384_S16384x1_0
        (Host.reduceAdd (mulf (rows z) (rows z)) (constant S_ .f32 0x00000000#32) reducesTo_S16384x256_S16384_d1 h_S_)))
    (mulf (broadcastInDim S16384x8192 ![] bcast_S_S16384x8192 (constant S_ .f32 0x40000000#32))
      (Host.dotGeneral dot_S16384x256_S256x8192_S16384x8192_1_0_0_1_n_n none (rows z)
        (transpose S256x8192 [1, 0] e transposes_S8192x256_S256x8192_1_0)))

/-- The code numbers the program ends with. -/
def result (z : Vec F S16x256x1024 .f32) (e : Vec F S8192x256 .f32) : Vec F S16x1x1024 .i32 :=
  shapeCast S16x1x1024
    (fun j => (Host.argReduce reducer_argmin_f32_i32 (dist z e) (iotaInDim S16384x8192 32 1)
      (constant S_ .f32 0x7F800000#32) (constantI S_ 32 0#32) reducesTo_S16384x8192_S16384_d1 h_S_ j).2)
    shapeCasts_S16384_S16x1x1024

/-- What the line leaves in the result buffer. -/
theorem out_eq (V : Valuation τ sig (Elt F)) :
    after ops V (main_v12 : DevRef τ sig) = result (V (main_arg0 : DevRef τ sig)) (V (main_arg1 : DevRef τ sig)) := by
  after_results
  unfold result dist rows
  refine funext fun i => ?_
  dsimp only
  rfl

/-- The line writes neither argument. -/
theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the TensorCore alone. -/
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., nullary_bufs_sub .., nullary_bufs_sub .., nullary_bufs_sub .., quaternary_bufs_sub .., quaternary_bufs_sub .., reshape_bufs_sub ..⟩

/-- Every execution ends, with the result buffer at `result` of the arguments and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
      ⟨(h c main_v12).trans (out_eq _), (h c main_arg0).trans (arg0_eq _), (h c main_arg1).trans (arg1_eq _)⟩)
    (run_seq scopedRefs_eq scopedSems_eq defs main (fun _ => ops) main_eq (fun _ => ops_sub) m ρ)

/-- The run with its counters: none is declared, so all read zero at the end. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

end Cert.NormFreeIdeal.Hand

end
-- ==== Proof.First.lean ====
/-
  The first place at which a finite sequence takes its least value, and the four facts about it that the kernel's search
  rests on: it exists and is unique, it can be found window by window, values past the end that are zero do not matter
  where some value is not positive, and a second term added to the sequence does not move it where that term is constant
  or too small to reach.
-/
module

public import proofs.«01_k».proof.Proof.RefRun
public import Idealize.ShloMosaic.Lib.Pointwise
public import Mathlib.Tactic.Linarith
public import Mathlib.Tactic.NormNum

@[expose] public section

noncomputable section

namespace Cert.Pick

variable {α : Type*} [LinearOrder α]

/-- `k` is the first of the places below `n` at which `s` is least. -/
def First (n : ℕ) (s : ℕ → α) (k : ℕ) : Prop :=
  k < n ∧ (∀ i, i < n → s k ≤ s i) ∧ ∀ i, i < k → s k < s i

theorem First.unique {n : ℕ} {s : ℕ → α} {k l : ℕ} (hk : First n s k) (hl : First n s l) : k = l := by
  rcases lt_trichotomy k l with h | h | h
  · exact absurd (hl.2.2 k h) (not_lt.mpr (hk.2.1 l hl.1))
  · exact h
  · exact absurd (hk.2.2 l h) (not_lt.mpr (hl.2.1 k hk.1))

/-- One window further: the new window's own first place takes over only where its value is strictly below. -/
theorem First.extend {n w : ℕ} {s : ℕ → α} {k r : ℕ} (hk : First n s k) (hr : First w (fun i => s (n + i)) r) :
    First (n + w) s (if s (n + r) < s k then n + r else k) := by
  obtain ⟨k1, k2, k3⟩ := hk
  obtain ⟨r1, r2, r3⟩ := hr
  dsimp only at r2 r3
  have tail : ∀ i, n ≤ i → i < n + w → s (n + r) ≤ s i := fun i h1 h2 => by
    have := r2 (i - n) (by omega)
    rwa [show n + (i - n) = i by omega] at this
  split
  · rename_i h
    refine ⟨by omega, fun i hi => ?_, fun i hi => ?_⟩
    · rcases lt_or_ge i n with hn | hn
      · exact h.le.trans (k2 i hn)
      · exact tail i hn hi
    · rcases lt_or_ge i n with hn | hn
      · exact h.trans_le (k2 i hn)
      · have := r3 (i - n) (by omega)
        rwa [show n + (i - n) = i by omega] at this
  · rename_i h
    refine ⟨by omega, fun i hi => ?_, k3⟩
    rcases lt_or_ge i n with hn | hn
    · exact k2 i hn
    · exact (not_lt.mp h).trans (tail i hn hi)

theorem First.single (s : ℕ → α) : First 1 s 0 :=
  ⟨Nat.one_pos, fun i hi => by rw [Nat.lt_one_iff.mp hi], fun i hi => absurd hi (Nat.not_lt_zero i)⟩

theorem First.exists {n : ℕ} (hn : 0 < n) (s : ℕ → α) : ∃ k, First n s k := by
  induction n, hn using Nat.le_induction with
  | base => exact ⟨0, First.single s⟩
  | succ n _ ih =>
    obtain ⟨k, hk⟩ := ih
    exact ⟨_, hk.extend (First.single _)⟩

/-- It depends on the order of the values alone. -/
theorem First.congr {β : Type*} [LinearOrder β] {n : ℕ} {s : ℕ → α} {d : ℕ → β} {k : ℕ}
    (h : ∀ i j, i < n → j < n → (s i ≤ s j ↔ d i ≤ d j)) (hk : First n s k) : First n d k :=
  ⟨hk.1, fun i hi => (h k i hk.1 hi).mp (hk.2.1 i hi), fun i hi =>
    not_le.mp fun hle => absurd ((h i k (hi.trans hk.1) hk.1).mpr hle) (not_le.mpr (hk.2.2 i hi))⟩

/-- Cut off a tail of one value that some earlier value does not exceed. -/
theorem First.restrict {n N : ℕ} {s : ℕ → α} {z : α} {k : ℕ} (hk : First N s k) (hn : n ≤ N)
    (hz : ∀ i, n ≤ i → i < N → s i = z) (hex : ∃ i, i < n ∧ s i ≤ z) : First n s k := by
  obtain ⟨i, hi, hle⟩ := hex
  refine ⟨?_, fun j hj => hk.2.1 j (hj.trans_le hn), hk.2.2⟩
  by_contra h
  have h' := hk.2.2 i (hi.trans_le (not_lt.mp h))
  rw [hz k (not_lt.mp h) hk.1] at h'
  exact absurd hle (not_le.mpr h')

/-- A second term `v` that is the same everywhere moves nothing. -/
theorem First.add_const {n : ℕ} {s v : ℕ → ℝ} {k : ℕ} (hk : First n s k)
    (hv : ∀ i j, i < n → j < n → v i = v j) : First n (fun i => s i + v i) k :=
  hk.congr fun i j hi hj => by rw [hv i j hi hj]; exact (add_le_add_iff_right _).symm

/-- Neither does one whose values differ by at most `b`, where no second value of `s` comes within `b` of the least. -/
theorem First.add_within {n : ℕ} {s v : ℕ → ℝ} {b : ℝ} {k : ℕ} (hk : First n s k)
    (hv : ∀ i j, i < n → j < n → v i - v j ≤ b) (hs : ∀ i, i < n → s i ≤ s k + b → i = k) :
    First n (fun i => s i + v i) k := by
  have key : ∀ i, i < n → i ≠ k → s k + v k < s i + v i := fun i hi hne => by
    have h1 : s k + b < s i := not_le.mp fun h => hne (hs i hi h)
    have h2 := hv k i hk.1 hi
    linarith
  refine ⟨hk.1, fun i hi => ?_, fun i hi => key i (hi.trans hk.1) (Nat.ne_of_lt hi)⟩
  by_cases h : i = k
  · rw [h]
  · exact (key i hi h).le

end Cert.Pick

end
-- ==== Proof.Pick.lean ====
/-
  One grid step of the kernel on extended reals, entry by entry: the score of a code in the step's window, the least
  score, the threshold (which is the least score again: the steps to a neighbouring float add nothing here), the first
  code of the window that reaches it, and the update of the running choice.
-/
module

public import proofs.«01_k».proof.Proof.First
public import proofs.«01_k».proof.Proof.Gen.KernelIdeal.Value

@[expose] public section

set_option maxRecDepth 16384

noncomputable section

namespace Cert.KernelIdeal.Pick

open Cert.KernelIdeal Cert.KernelIdeal.Gen Idealize.ShloMosaic Cert.Pick

/-! ## Constants -/

theorem one_val : Ideal.ofBits .f32 0x3F800000#32 = 1 := Ideal.ofBits_one_f32
theorem big_val : Ideal.ofBits .f32 0x4B800000#32 = ((16777216 : ℝ) : EReal) := by
  simp [Ideal.ofBits, Ideal.ieee, -EReal.coe_mul]; norm_num
theorem far_val : Ideal.ofBits .f32 0x4E800000#32 = ((1073741824 : ℝ) : EReal) := by
  simp [Ideal.ofBits, Ideal.ieee, -EReal.coe_mul]; norm_num
theorem top_val : Ideal.ofBits .f32 0x7F800000#32 = ⊤ := by simp [Ideal.ofBits, Ideal.ieee]
theorem neg_two_val : Ideal.ofBits .f32 0xC0000000#32 = ((-2 : ℝ) : EReal) := by
  simp [Ideal.ofBits, Ideal.ieee, -EReal.coe_mul]; norm_num

/-- What `1 + 2 ^ 24` keeps of its `1`: on the reals, all of it, so nothing is lost. -/
theorem lost_zero (x : EReal) : x * ((1 - (1 + ((16777216 : ℝ) : EReal) - ((16777216 : ℝ) : EReal)))
    * Ideal.ofBits .f32 0x33800001#32) = 0 := by
  have h : (1 : EReal) - (1 + ((16777216 : ℝ) : EReal) - ((16777216 : ℝ) : EReal)) = 0 := by
    rw [← EReal.coe_one, ← EReal.coe_add, ← EReal.coe_sub, ← EReal.coe_sub, ← EReal.coe_zero]
    congr 1; norm_num
  rw [h, zero_mul, mul_zero]

/-! ## The step to a neighbouring float adds nothing -/

theorem ulp_zero (v : FVec Ideal S1x1024 .f32) :
    mulf (absf v) (mulf (subf (broadcast S1x1024 (Scalar.ofBits .f32 0x3F800000#32 : Ideal .f32))
        (subf (addf (broadcast S1x1024 (Scalar.ofBits .f32 0x3F800000#32 : Ideal .f32)) (broadcast S1x1024 (Scalar.ofBits .f32 0x4B800000#32 : Ideal .f32)))
          (broadcast S1x1024 (Scalar.ofBits .f32 0x4B800000#32 : Ideal .f32))))
      (broadcast S1x1024 (Scalar.ofBits .f32 0x33800001#32 : Ideal .f32))) = fun _ => (0 : EReal) := by
  funext i
  have h := lost_zero (max (v i) (-(v i)))
  rw [← big_val, ← one_val] at h
  exact h

theorem add_zero_vec (v : FVec Ideal S1x1024 .f32) : addf v (fun _ => (0 : EReal)) = v :=
  funext fun i => add_zero (v i : EReal)
theorem sub_zero_vec (v : FVec Ideal S1x1024 .f32) : subf v (fun _ => (0 : EReal)) = v :=
  funext fun i => sub_zero (v i : EReal)
theorem select_same_vec (c : IVec S1x1024 1) (v : FVec Ideal S1x1024 .f32) : select c v v = v := by
  funext i; show (if c i = 1 then v i else v i) = v i
  split <;> rfl

theorem down_eq (q v36 v77 : FVec Ideal S1x1024 .f32) (v79 : IVec S1x1024 1) :
    k0_pay25 (F := Ideal) q v36 v77 v79 k0_pay23 k0_pay24 = v77 := by
  unfold k0_pay25 k0_pay24 k0_pay23
  simp only [ulp_zero, sub_zero_vec, select_same_vec]

theorem up_eq (q s : FVec Ideal S1x1024 .f32) :
    k0_pay21 (F := Ideal) q s = addf (subf (addf q s) q)
      (mulf (subf (addf q s) (addf q s)) (broadcast S1x1024 (Scalar.ofBits .f32 0x3F000000#32 : Ideal .f32))) := by
  unfold k0_pay21 k0_pay20
  simp only [ulp_zero, add_zero_vec, select_same_vec]

/-- The threshold is the least score, where the two terms of the distance are real. -/
theorem tau_apply (q s : FVec Ideal S1x1024 .f32) (a : Fin 1024) (q' s' : ℝ) (hq : q (ix2 0 a) = (q' : EReal))
    (hs : s (ix2 0 a) = (s' : EReal)) : k0_pay21 (F := Ideal) q s (ix2 0 a) = (s' : EReal) := by
  rw [up_eq]
  have h0 : ((q' : EReal) + s') - ((q' : EReal) + s') = 0 := by
    rw [← EReal.coe_add, ← EReal.coe_sub, sub_self, EReal.coe_zero]
  show ((q (ix2 0 a) : EReal) + s (ix2 0 a) - q (ix2 0 a)) + ((q (ix2 0 a) : EReal) + s (ix2 0 a) - (q (ix2 0 a) + s (ix2 0 a))) * _ = _
  rw [hq, hs, h0, zero_mul, add_zero, ← EReal.coe_add, ← EReal.coe_sub, add_sub_cancel_left]

/-! ## The least of four slices -/

/-- The least of 2736 values, taken as the kernel takes it. -/
def four (g : ℕ → EReal) : EReal :=
  min (min (min (Finset.univ.fold min ⊤ fun r : Fin 688 => g r) (Finset.univ.fold min ⊤ fun r : Fin 688 => g (688 + r)))
    (Finset.univ.fold min ⊤ fun r : Fin 688 => g (1376 + r))) (Finset.univ.fold min ⊤ fun r : Fin 672 => g (2064 + r))

theorem four_eq (g : ℕ → EReal) (c : EReal) (k : ℕ) (hk : k < 2736) (hc : g k = c) (hle : ∀ i, i < 2736 → c ≤ g i) :
    four g = c := by
  unfold four
  apply le_antisymm
  · simp only [min_le_iff, Finset.fold_min_le]
    rcases lt_or_ge k 688 with h1 | h1
    · exact .inl (.inl (.inl (.inr ⟨⟨k, h1⟩, Finset.mem_univ _, hc.le⟩)))
    rcases lt_or_ge k 1376 with h2 | h2
    · exact .inl (.inl (.inr (.inr ⟨⟨k - 688, by omega⟩, Finset.mem_univ _, by rw [show 688 + (k - 688) = k by omega, hc]⟩)))
    rcases lt_or_ge k 2064 with h3 | h3
    · exact .inl (.inr (.inr ⟨⟨k - 1376, by omega⟩, Finset.mem_univ _, by rw [show 1376 + (k - 1376) = k by omega, hc]⟩))
    · exact .inr (.inr ⟨⟨k - 2064, by omega⟩, Finset.mem_univ _, by rw [show 2064 + (k - 2064) = k by omega, hc]⟩)
  · simp only [le_min_iff, Finset.le_fold_min]
    exact ⟨⟨⟨⟨le_top, fun r _ => hle _ (by omega)⟩, le_top, fun r _ => hle _ (by omega)⟩, le_top, fun r _ => hle _ (by omega)⟩,
      le_top, fun r _ => hle _ (by omega)⟩

/-- The least of the places that reach the least value, the others counted as far away, is the first one. -/
theorem four_first (f : ℕ → EReal) (m : EReal) (k : ℕ) (hk : First 2736 f k) (hm : m = f k) :
    four (fun i => if f i ≤ m then ((i : ℝ) : EReal) else ((1073741824 : ℝ) : EReal)) = ((k : ℝ) : EReal) := by
  subst hm
  refine four_eq _ _ k hk.1 (if_pos le_rfl) fun i hi => ?_
  split
  · rename_i h
    rw [EReal.coe_le_coe_iff, Nat.cast_le]
    exact not_lt.mp fun hlt => absurd h (not_le.mpr (hk.2.2 i hlt))
  · rw [EReal.coe_le_coe_iff]
    have : k ≤ 1073741824 := by have := hk.1; omega
    exact_mod_cast this

/-! ## The payloads at an entry -/

/-- The score of row `r` of a window at frame `a`, zero past the window's end. -/
def sc (v16 : Vec Ideal S2736x256 .f32) (v18 : Vec Ideal S256x1024 .f32) (a : Fin 1024) (r : ℕ) : EReal :=
  if h : r < 2736 then ∑ d : Fin 256, v16 (ix2 ⟨r, h⟩ d) * v18 (ix2 d a) else 0

theorem score_apply (v16 : Vec Ideal S2736x256 .f32) (v18 : Vec Ideal S256x1024 .f32) (r : Fin 2736) (a : Fin 1024) :
    k0_pay18 v16 v18 (ix2 r a) = sc v16 v18 a r := by
  rw [sc, dif_pos r.2]
  pointwise [k0_pay18]

theorem smin_apply (v16 : Vec Ideal S2736x256 .f32) (v18 : Vec Ideal S256x1024 .f32) (a : Fin 1024) :
    k0_pay19 v16 v18 (ix2 0 a) = four (sc v16 v18 a) := by
  pointwise [k0_pay19]
  simp only [score_apply, top_val]
  rfl

theorem kin_apply (r : Fin 2736) (a : Fin 1024) : k0_pay17 (F := Ideal) (ix2 r a) = (((r : ℕ) : ℝ) : EReal) := by
  pointwise [k0_pay17]
  show (((BitVec.ofNat 32 r).toInt : ℝ) : EReal) = _
  rw [BitVec.toInt_eq_toNat_of_lt (by rw [BitVec.toNat_ofNat]; omega), BitVec.toNat_ofNat, Nat.mod_eq_of_lt (by omega)]
  norm_cast

theorem pos_apply (w : BitVec 32) (tau : FVec Ideal S1x1024 .f32) (v16 : Vec Ideal S2736x256 .f32) (v18 : Vec Ideal S256x1024 .f32)
    (q v36 v77 : FVec Ideal S1x1024 .f32) (v79 : IVec S1x1024 1) (kin : Vec Ideal S2736x1024 .f32) (a : Fin 1024)
    (hkin : ∀ r : Fin 2736, kin (ix2 r a) = (((r : ℕ) : ℝ) : EReal)) (htau : tau = v77) :
    k0_pay1 w tau kin (k0_pay26 (k0_pay18 v16 v18) q v36 v77 v79 k0_pay23 k0_pay24 kin) (k0_pay27 (k0_pay18 v16 v18)) (ix2 0 a)
      = IntOp.addi (Ideal.fptosi 32 (four fun i => if sc v16 v18 a i ≤ v77 (ix2 0 a) then ((i : ℝ) : EReal) else ((1073741824 : ℝ) : EReal))) w := by
  subst htau
  pointwise [k0_pay1, k0_pay26, k0_pay27, down_eq]
  simp only [score_apply, top_val, far_val, hkin]
  rfl

end Cert.KernelIdeal.Pick

end
-- ==== Proof.Step.lean ====
module

public import proofs.«01_k».proof.Proof.Pick
public import Idealize.ShloMosaic.Lib.Pipeline.Value
public import Idealize.ShloMosaic.Lib.Tactic

/-! What each run of the kernel's body leaves in its buffers, as a function of what it found there. -/

@[expose] public section

set_option maxRecDepth 16384

noncomputable section

namespace Cert.KernelIdeal.Step

open Cert.KernelIdeal Cert.KernelIdeal.Gen Idealize.ShloMosaic Idealize.ShloMosaic.TcCoe

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first codebook row of the window. -/
def base (i : grid0.Coords) : BitVec 32 :=
  Scalar.addi (Scalar.muli (BitVec.ofNat 32 (i 1).val) 2736#32) (Scalar.muli (BitVec.ofNat 32 (i 2).val) 2736#32)

/-- The window of the codebook a step reads. -/
def win (i : grid0.Coords) (x1 : Vec F S8208x256 .f32) : Vec F S2736x256 .f32 :=
  View.ld x1 (Rect.unit (s := S8208x256) (k0_off1 i) S2736x256.size (Gen.facts.k0_off1_inb i))

/-- The least distance in the window. -/
def wv (E : Vec F S2736x256 .f32) (xm : Vec F S256x1024 .f32) (xq : Vec F S1x1024 .f32) : Vec F S1x1024 .f32 :=
  k0_pay2 (k0_pay20 xq (k0_pay19 E xm))

/-- The index found for it. -/
def wi (i : grid0.Coords) (E : Vec F S2736x256 .f32) (xm : Vec F S256x1024 .f32) (xq : Vec F S1x1024 .f32)
    (kin : Vec F S2736x1024 .f32) : Vec F S1x1024 .i32 :=
  k0_pay3 (base i)
    (k0_pay25 xq (k0_pay20 xq (k0_pay19 E xm)) (k0_pay21 xq (k0_pay19 E xm)) (k0_pay22 xq (k0_pay19 E xm)) k0_pay23 k0_pay24)
    kin
    (k0_pay26 (k0_pay18 E xm) xq (k0_pay20 xq (k0_pay19 E xm)) (k0_pay21 xq (k0_pay19 E xm)) (k0_pay22 xq (k0_pay19 E xm))
      k0_pay23 k0_pay24 kin)
    (k0_pay27 (k0_pay18 E xm))

theorem sout0_A_0_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : cond0_0 i) (hc1 : cond0_1 i) (hc2 : cond0_2 i) (hc3 : ¬cond0_3 i) (hc4 : cond0_4 i) (hc5 : ¬cond0_5 i) (hc6 : ¬cond0_6 i)
    (x0 : Vec F S1x256x1024 .f32) (x1 : Vec F S8208x256 .f32)
     :
    sout0_A_0 c i a3 h3 a4 h4 a5 h5 a6 h6 a7 h7 a8 h8 a9 h9 a10 h10 a11 h11 a12 h12
      hc0 hc1 hc2 hc3 hc4 hc5 hc6 x0 x1  =
      k0_pay15 x0 := by
  unfold sout0_A_0
  rw [View.read_writes_eq_canon _ _ _ (scover0_A_0 c i a3 h3 a4 h4 a5 h5 a6 h6 a7 h7 a8 h8 a9 h9 a10 h10 a11 h11 a12 h12
      hc0 hc1 hc2 hc3 hc4 hc5 hc6 x0 x1 )]
  unfold kernelRun0_A
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]

theorem sout0_A_1_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : cond0_0 i) (hc1 : cond0_1 i) (hc2 : cond0_2 i) (hc3 : ¬cond0_3 i) (hc4 : cond0_4 i) (hc5 : ¬cond0_5 i) (hc6 : ¬cond0_6 i)
    (x0 : Vec F S1x256x1024 .f32) (x1 : Vec F S8208x256 .f32)
     :
    sout0_A_1 c i a3 h3 a4 h4 a5 h5 a6 h6 a7 h7 a8 h8 a9 h9 a10 h10 a11 h11 a12 h12
      hc0 hc1 hc2 hc3 hc4 hc5 hc6 x0 x1  =
      k0_pay16 x0 := by
  unfold sout0_A_1
  rw [View.read_writes_eq_canon _ _ _ (scover0_A_1 c i a3 h3 a4 h4 a5 h5 a6 h6 a7 h7 a8 h8 a9 h9 a10 h10 a11 h11 a12 h12
      hc0 hc1 hc2 hc3 hc4 hc5 hc6 x0 x1 )]
  unfold kernelRun0_A
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]

theorem sout0_A_2_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : cond0_0 i) (hc1 : cond0_1 i) (hc2 : cond0_2 i) (hc3 : ¬cond0_3 i) (hc4 : cond0_4 i) (hc5 : ¬cond0_5 i) (hc6 : ¬cond0_6 i)
    (x0 : Vec F S1x256x1024 .f32) (x1 : Vec F S8208x256 .f32)
     :
    sout0_A_2 c i a3 h3 a4 h4 a5 h5 a6 h6 a7 h7 a8 h8 a9 h9 a10 h10 a11 h11 a12 h12
      hc0 hc1 hc2 hc3 hc4 hc5 hc6 x0 x1  =
      k0_pay17 := by
  unfold sout0_A_2
  rw [View.read_writes_eq_canon _ _ _ (scover0_A_2 c i a3 h3 a4 h4 a5 h5 a6 h6 a7 h7 a8 h8 a9 h9 a10 h10 a11 h11 a12 h12
      hc0 hc1 hc2 hc3 hc4 hc5 hc6 x0 x1 )]
  unfold kernelRun0_A
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]

theorem sout0_A_5_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : cond0_0 i) (hc1 : cond0_1 i) (hc2 : cond0_2 i) (hc3 : ¬cond0_3 i) (hc4 : cond0_4 i) (hc5 : ¬cond0_5 i) (hc6 : ¬cond0_6 i)
    (x0 : Vec F S1x256x1024 .f32) (x1 : Vec F S8208x256 .f32)
     :
    sout0_A_5 c i a3 h3 a4 h4 a5 h5 a6 h6 a7 h7 a8 h8 a9 h9 a10 h10 a11 h11 a12 h12
      hc0 hc1 hc2 hc3 hc4 hc5 hc6 x0 x1  =
      k0_pay7 (wv (win i x1) (k0_pay15 x0) (k0_pay16 x0)) := by
  unfold sout0_A_5
  rw [View.read_writes_eq_canon _ _ _ (scover0_A_5 c i a3 h3 a4 h4 a5 h5 a6 h6 a7 h7 a8 h8 a9 h9 a10 h10 a11 h11 a12 h12
      hc0 hc1 hc2 hc3 hc4 hc5 hc6 x0 x1 )]
  unfold kernelRun0_A
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]
  rfl

theorem sout0_A_6_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : cond0_0 i) (hc1 : cond0_1 i) (hc2 : cond0_2 i) (hc3 : ¬cond0_3 i) (hc4 : cond0_4 i) (hc5 : ¬cond0_5 i) (hc6 : ¬cond0_6 i)
    (x0 : Vec F S1x256x1024 .f32) (x1 : Vec F S8208x256 .f32)
     :
    sout0_A_6 c i a3 h3 a4 h4 a5 h5 a6 h6 a7 h7 a8 h8 a9 h9 a10 h10 a11 h11 a12 h12
      hc0 hc1 hc2 hc3 hc4 hc5 hc6 x0 x1  =
      k0_pay8 (F := F) (wi i (win i x1) (k0_pay15 x0) (k0_pay16 x0) k0_pay17) := by
  unfold sout0_A_6
  rw [View.read_writes_eq_canon _ _ _ (scover0_A_6 c i a3 h3 a4 h4 a5 h5 a6 h6 a7 h7 a8 h8 a9 h9 a10 h10 a11 h11 a12 h12
      hc0 hc1 hc2 hc3 hc4 hc5 hc6 x0 x1 )]
  unfold kernelRun0_A
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]
  rfl

theorem sout0_D_0_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : cond0_0 i) (hc1 : ¬cond0_1 i) (hc2 : cond0_2 i) (hc3 : ¬cond0_3 i) (hc4 : cond0_4 i) (hc5 : ¬cond0_5 i) (hc6 : ¬cond0_6 i)
    (x0 : Vec F S1x256x1024 .f32) (x1 : Vec F S8208x256 .f32)
    (xs2 : Vec F S2736x1024 .f32) :
    sout0_D_0 c i a3 h3 a4 h4 a5 h5 a6 h6 a7 h7 a8 h8 a9 h9 a10 h10 a11 h11 a12 h12
      hc0 hc1 hc2 hc3 hc4 hc5 hc6 x0 x1 xs2 =
      k0_pay15 x0 := by
  unfold sout0_D_0
  rw [View.read_writes_eq_canon _ _ _ (scover0_D_0 c i a3 h3 a4 h4 a5 h5 a6 h6 a7 h7 a8 h8 a9 h9 a10 h10 a11 h11 a12 h12
      hc0 hc1 hc2 hc3 hc4 hc5 hc6 x0 x1 xs2)]
  unfold kernelRun0_D
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]

theorem sout0_D_1_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : cond0_0 i) (hc1 : ¬cond0_1 i) (hc2 : cond0_2 i) (hc3 : ¬cond0_3 i) (hc4 : cond0_4 i) (hc5 : ¬cond0_5 i) (hc6 : ¬cond0_6 i)
    (x0 : Vec F S1x256x1024 .f32) (x1 : Vec F S8208x256 .f32)
    (xs2 : Vec F S2736x1024 .f32) :
    sout0_D_1 c i a3 h3 a4 h4 a5 h5 a6 h6 a7 h7 a8 h8 a9 h9 a10 h10 a11 h11 a12 h12
      hc0 hc1 hc2 hc3 hc4 hc5 hc6 x0 x1 xs2 =
      k0_pay16 x0 := by
  unfold sout0_D_1
  rw [View.read_writes_eq_canon _ _ _ (scover0_D_1 c i a3 h3 a4 h4 a5 h5 a6 h6 a7 h7 a8 h8 a9 h9 a10 h10 a11 h11 a12 h12
      hc0 hc1 hc2 hc3 hc4 hc5 hc6 x0 x1 xs2)]
  unfold kernelRun0_D
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]

theorem sout0_D_5_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : cond0_0 i) (hc1 : ¬cond0_1 i) (hc2 : cond0_2 i) (hc3 : ¬cond0_3 i) (hc4 : cond0_4 i) (hc5 : ¬cond0_5 i) (hc6 : ¬cond0_6 i)
    (x0 : Vec F S1x256x1024 .f32) (x1 : Vec F S8208x256 .f32)
    (xs2 : Vec F S2736x1024 .f32) :
    sout0_D_5 c i a3 h3 a4 h4 a5 h5 a6 h6 a7 h7 a8 h8 a9 h9 a10 h10 a11 h11 a12 h12
      hc0 hc1 hc2 hc3 hc4 hc5 hc6 x0 x1 xs2 =
      k0_pay7 (wv (win i x1) (k0_pay15 x0) (k0_pay16 x0)) := by
  unfold sout0_D_5
  rw [View.read_writes_eq_canon _ _ _ (scover0_D_5 c i a3 h3 a4 h4 a5 h5 a6 h6 a7 h7 a8 h8 a9 h9 a10 h10 a11 h11 a12 h12
      hc0 hc1 hc2 hc3 hc4 hc5 hc6 x0 x1 xs2)]
  unfold kernelRun0_D
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]
  rfl

theorem sout0_D_6_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : cond0_0 i) (hc1 : ¬cond0_1 i) (hc2 : cond0_2 i) (hc3 : ¬cond0_3 i) (hc4 : cond0_4 i) (hc5 : ¬cond0_5 i) (hc6 : ¬cond0_6 i)
    (x0 : Vec F S1x256x1024 .f32) (x1 : Vec F S8208x256 .f32)
    (xs2 : Vec F S2736x1024 .f32) :
    sout0_D_6 c i a3 h3 a4 h4 a5 h5 a6 h6 a7 h7 a8 h8 a9 h9 a10 h10 a11 h11 a12 h12
      hc0 hc1 hc2 hc3 hc4 hc5 hc6 x0 x1 xs2 =
      k0_pay8 (F := F) (wi i (win i x1) (k0_pay15 x0) (k0_pay16 x0) xs2) := by
  unfold sout0_D_6
  rw [View.read_writes_eq_canon _ _ _ (scover0_D_6 c i a3 h3 a4 h4 a5 h5 a6 h6 a7 h7 a8 h8 a9 h9 a10 h10 a11 h11 a12 h12
      hc0 hc1 hc2 hc3 hc4 hc5 hc6 x0 x1 xs2)]
  unfold kernelRun0_D
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]
  rfl

theorem sout0_B_5_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : ¬cond0_0 i) (hc1 : ¬cond0_1 i) (hc2 : cond0_2 i) (hc3 : ¬cond0_3 i) (hc4 : ¬cond0_4 i) (hc5 : cond0_5 i) (hc6 : ¬cond0_6 i)
    (x0 : Vec F S1x256x1024 .f32) (x1 : Vec F S8208x256 .f32)
    (xs0 : Vec F S256x1024 .f32) (xs1 : Vec F S1x1024 .f32) (xs2 : Vec F S2736x1024 .f32) (xs5 : Vec F S1x1024 .bf16) (xs6 : Vec F S1x1024 .i32) :
    sout0_B_5 c i a3 h3 a4 h4 a5 h5 a6 h6 a7 h7 a8 h8 a9 h9 a10 h10 a11 h11 a12 h12
      hc0 hc1 hc2 hc3 hc4 hc5 hc6 x0 x1 xs0 xs1 xs2 xs5 xs6 =
      k0_pay11 xs5 (wv (win i x1) xs0 xs1) (wv (win i x1) xs0 xs1) := by
  unfold sout0_B_5
  rw [View.read_writes_eq_canon _ _ _ (scover0_B_5 c i a3 h3 a4 h4 a5 h5 a6 h6 a7 h7 a8 h8 a9 h9 a10 h10 a11 h11 a12 h12
      hc0 hc1 hc2 hc3 hc4 hc5 hc6 x0 x1 xs0 xs1 xs2 xs5 xs6)]
  unfold kernelRun0_B
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]
  rfl

theorem sout0_B_6_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : ¬cond0_0 i) (hc1 : ¬cond0_1 i) (hc2 : cond0_2 i) (hc3 : ¬cond0_3 i) (hc4 : ¬cond0_4 i) (hc5 : cond0_5 i) (hc6 : ¬cond0_6 i)
    (x0 : Vec F S1x256x1024 .f32) (x1 : Vec F S8208x256 .f32)
    (xs0 : Vec F S256x1024 .f32) (xs1 : Vec F S1x1024 .f32) (xs2 : Vec F S2736x1024 .f32) (xs5 : Vec F S1x1024 .bf16) (xs6 : Vec F S1x1024 .i32) :
    sout0_B_6 c i a3 h3 a4 h4 a5 h5 a6 h6 a7 h7 a8 h8 a9 h9 a10 h10 a11 h11 a12 h12
      hc0 hc1 hc2 hc3 hc4 hc5 hc6 x0 x1 xs0 xs1 xs2 xs5 xs6 =
      k0_pay12 xs5 (wv (win i x1) xs0 xs1) (wi i (win i x1) xs0 xs1 xs2) xs6 := by
  unfold sout0_B_6
  rw [View.read_writes_eq_canon _ _ _ (scover0_B_6 c i a3 h3 a4 h4 a5 h5 a6 h6 a7 h7 a8 h8 a9 h9 a10 h10 a11 h11 a12 h12
      hc0 hc1 hc2 hc3 hc4 hc5 hc6 x0 x1 xs0 xs1 xs2 xs5 xs6)]
  unfold kernelRun0_B
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]
  rfl

theorem sout0_C_5_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : ¬cond0_0 i) (hc1 : ¬cond0_1 i) (hc2 : cond0_2 i) (hc3 : ¬cond0_3 i) (hc4 : ¬cond0_4 i) (hc5 : cond0_5 i) (hc6 : cond0_6 i)
    (x0 : Vec F S1x256x1024 .f32) (x1 : Vec F S8208x256 .f32)
    (xs0 : Vec F S256x1024 .f32) (xs1 : Vec F S1x1024 .f32) (xs2 : Vec F S2736x1024 .f32) (xs5 : Vec F S1x1024 .bf16) (xs6 : Vec F S1x1024 .i32) :
    sout0_C_5 c i a3 h3 a4 h4 a5 h5 a6 h6 a7 h7 a8 h8 a9 h9 a10 h10 a11 h11 a12 h12
      hc0 hc1 hc2 hc3 hc4 hc5 hc6 x0 x1 xs0 xs1 xs2 xs5 xs6 =
      k0_pay11 xs5 (wv (win i x1) xs0 xs1) (wv (win i x1) xs0 xs1) := by
  unfold sout0_C_5
  rw [View.read_writes_eq_canon _ _ _ (scover0_C_5 c i a3 h3 a4 h4 a5 h5 a6 h6 a7 h7 a8 h8 a9 h9 a10 h10 a11 h11 a12 h12
      hc0 hc1 hc2 hc3 hc4 hc5 hc6 x0 x1 xs0 xs1 xs2 xs5 xs6)]
  unfold kernelRun0_C
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]
  rfl

theorem sout0_C_6_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : ¬cond0_0 i) (hc1 : ¬cond0_1 i) (hc2 : cond0_2 i) (hc3 : ¬cond0_3 i) (hc4 : ¬cond0_4 i) (hc5 : cond0_5 i) (hc6 : cond0_6 i)
    (x0 : Vec F S1x256x1024 .f32) (x1 : Vec F S8208x256 .f32)
    (xs0 : Vec F S256x1024 .f32) (xs1 : Vec F S1x1024 .f32) (xs2 : Vec F S2736x1024 .f32) (xs5 : Vec F S1x1024 .bf16) (xs6 : Vec F S1x1024 .i32) :
    sout0_C_6 c i a3 h3 a4 h4 a5 h5 a6 h6 a7 h7 a8 h8 a9 h9 a10 h10 a11 h11 a12 h12
      hc0 hc1 hc2 hc3 hc4 hc5 hc6 x0 x1 xs0 xs1 xs2 xs5 xs6 =
      k0_pay12 xs5 (wv (win i x1) xs0 xs1) (wi i (win i x1) xs0 xs1 xs2) xs6 := by
  unfold sout0_C_6
  rw [View.read_writes_eq_canon _ _ _ (scover0_C_6 c i a3 h3 a4 h4 a5 h5 a6 h6 a7 h7 a8 h8 a9 h9 a10 h10 a11 h11 a12 h12
      hc0 hc1 hc2 hc3 hc4 hc5 hc6 x0 x1 xs0 xs1 xs2 xs5 xs6)]
  unfold kernelRun0_C
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]
  rfl

theorem out0_C_2_eq (c : Dev nD) (i : grid0.Coords)
    (a3 : Memref sig .tc .vmem S1x256x1024 .f32) (h3 : a3.IsWhole)
    (a4 : Memref sig .tc .vmem S8208x256 .f32) (h4 : a4.IsWhole)
    (a5 : Memref sig .tc .vmem S1x1x1024 .i32) (h5 : a5.IsWhole)
    (a6 : Memref sig .tc .vmem S256x1024 .f32) (h6 : a6.IsWhole)
    (a7 : Memref sig .tc .vmem S1x1024 .f32) (h7 : a7.IsWhole)
    (a8 : Memref sig .tc .vmem S2736x1024 .f32) (h8 : a8.IsWhole)
    (a9 : Memref sig .tc .vmem S1x1024 .f32) (h9 : a9.IsWhole)
    (a10 : Memref sig .tc .vmem S1x1024 .i32) (h10 : a10.IsWhole)
    (a11 : Memref sig .tc .vmem S1x1024 .bf16) (h11 : a11.IsWhole)
    (a12 : Memref sig .tc .vmem S1x1024 .i32) (h12 : a12.IsWhole)
    (hc0 : ¬cond0_0 i) (hc1 : ¬cond0_1 i) (hc2 : cond0_2 i) (hc3 : ¬cond0_3 i) (hc4 : ¬cond0_4 i) (hc5 : cond0_5 i) (hc6 : cond0_6 i)
    (x0 : Vec F S1x256x1024 .f32) (x1 : Vec F S8208x256 .f32)
    (xs0 : Vec F S256x1024 .f32) (xs1 : Vec F S1x1024 .f32) (xs2 : Vec F S2736x1024 .f32) (xs5 : Vec F S1x1024 .bf16) (xs6 : Vec F S1x1024 .i32) :
    out0_C_2 c i a3 h3 a4 h4 a5 h5 a6 h6 a7 h7 a8 h8 a9 h9 a10 h10 a11 h11 a12 h12
      hc0 hc1 hc2 hc3 hc4 hc5 hc6 x0 x1 xs0 xs1 xs2 xs5 xs6 =
      k0_pay13 (F := F) (k0_pay12 xs5 (wv (win i x1) xs0 xs1) (wi i (win i x1) xs0 xs1 xs2) xs6) := by
  unfold out0_C_2
  rw [View.read_writes_eq_canon _ _ _ (cover0_C_2 c i a3 h3 a4 h4 a5 h5 a6 h6 a7 h7 a8 h8 a9 h9 a10 h10 a11 h11 a12 h12
      hc0 hc1 hc2 hc3 hc4 hc5 hc6 x0 x1 xs0 xs1 xs2 xs5 xs6)]
  unfold kernelRun0_C
  dsimp only
  sl_unfold_words
  simp only [View.canon_unit_zero (S := S1x1024) hz2, View.canon_unit_zero (S := S256x1024) hz2, View.canon_unit_zero (S := S2736x1024) hz2,
    View.canon_unit_zero (S := S1x1x1024) hz3,
    View.canon_cons_unit_zero (S := S1x1024) hz2, View.readCov_unit_zero (S := S1x1024) _ hz2,
    View.readCov_unit_zero (S := S256x1024) _ hz2, View.readCov_unit_zero (S := S2736x1024) _ hz2,
    View.readAt_eq_ld, h3.read_unread, h4.read_unread, h6.read_unread, h7.read_unread, h8.read_unread, h11.read_unread, h12.read_unread,
    View.ld_unit_zero (S := S1x1024) hz2, View.ld_unit_zero (S := S256x1024) hz2, View.ld_unit_zero (S := S2736x1024) hz2,
    View.ld_unit_zero (S := S1x256x1024) hz3]
  rfl

end Cert.KernelIdeal.Step
end
-- ==== Proof.State.lean ====
/-
  The kernel's running state, column by column: after the window `j` of a batch the two accumulators hold the least
  score of the codes seen so far (shifted by the column's own norm) and the first code that reaches it.
-/
module

public import proofs.«01_k».proof.Proof.Step

@[expose] public section

set_option maxRecDepth 16384

noncomputable section

namespace Cert.KernelIdeal.State

open Cert.KernelIdeal Cert.KernelIdeal.Gen Cert.KernelIdeal.Step Cert.KernelIdeal.Pick Cert.Pick
open Idealize.ShloMosaic Idealize.ShloMosaic.TcCoe

/-! ## One window -/

theorem fptosi_nat (k : ℕ) (hk : k < 2736) : Ideal.fptosi 32 (((k : ℝ)) : EReal) = BitVec.ofNat 32 k := by
  rw [Ideal.fptosi, Ideal.toIntClamped_coe, if_pos (Nat.cast_nonneg k), Int.floor_natCast, min_eq_right (by norm_num; omega),
    max_eq_right (by norm_num)]
  exact BitVec.ofInt_natCast 32 k

theorem window (i : grid0.Coords) (E : Vec Ideal S2736x256 .f32) (xm : Vec Ideal S256x1024 .f32) (xq : Vec Ideal S1x1024 .f32)
    (kin : Vec Ideal S2736x1024 .f32) (a : Fin 1024) (n : ℕ) (s : ℕ → ℝ) (q : ℝ)
    (hs : ∀ r, r < 2736 → sc E xm a r = ((s (n + r) : ℝ) : EReal)) (hq : xq (ix2 0 a) = (q : EReal))
    (hkin : ∀ r : Fin 2736, kin (ix2 r a) = (((r : ℕ) : ℝ) : EReal)) (hb : base i = BitVec.ofNat 32 n) :
    ∃ r, First 2736 (fun i => s (n + i)) r ∧ wv E xm xq (ix2 0 a) = ((q + s (n + r) : ℝ) : EReal)
      ∧ wi i E xm xq kin (ix2 0 a) = BitVec.ofNat 32 (n + r) := by
  obtain ⟨r, hr⟩ := First.exists (show 0 < 2736 by norm_num) (fun i => s (n + i))
  have hr' : First 2736 (sc E xm a) r := hr.congr fun i j hi hj => by
    rw [hs i hi, hs j hj, EReal.coe_le_coe_iff]
  have hmin : k0_pay19 E xm (ix2 0 a) = ((s (n + r) : ℝ) : EReal) := by
    rw [smin_apply, four_eq _ _ r hr.1 rfl hr'.2.1, hs r hr.1]
  refine ⟨r, hr, ?_, ?_⟩
  · unfold wv k0_pay2 k0_pay20
    rw [shapeCast_self]
    show (xq (ix2 0 a) : EReal) + k0_pay19 E xm (ix2 0 a) = _
    rw [hq, hmin, EReal.coe_add]
  · unfold wi k0_pay3
    rw [shapeCast_self, pos_apply _ _ E xm _ _ _ _ _ a hkin (down_eq _ _ _ _), tau_apply _ _ a q _ hq hmin, hb,
      four_first (sc E xm a) _ r hr' (hs r hr.1).symm, fptosi_nat r hr.1]
    show BitVec.ofNat 32 r + BitVec.ofNat 32 n = _
    rw [add_comm n r, BitVec.ofNat_add]

theorem start (W : Vec Ideal S1x1024 .f32) (I : Vec Ideal S1x1024 .i32) :
    k0_pay7 W = W ∧ k0_pay8 (F := Ideal) I = I := by
  unfold k0_pay7 k0_pay8
  dsimp only
  exact ⟨by rw [shapeCast_self]; rfl, by rw [shapeCast_self]⟩

theorem update (W acc5 : FVec Ideal S1x1024 .f32) (I acc6 : Vec Ideal S1x1024 .i32) (a : Fin 1024) (n k r : ℕ) (s : ℕ → ℝ) (q : ℝ)
    (hk : First n s k) (hr : First 2736 (fun i => s (n + i)) r)
    (h5 : acc5 (ix2 0 a) = ((q + s k : ℝ) : EReal)) (h6 : acc6 (ix2 0 a) = BitVec.ofNat 32 k)
    (hW : W (ix2 0 a) = ((q + s (n + r) : ℝ) : EReal)) (hI : I (ix2 0 a) = BitVec.ofNat 32 (n + r)) :
    ∃ k', First (n + 2736) s k' ∧ k0_pay11 (F := Ideal) acc5 W W (ix2 0 a) = ((q + s k' : ℝ) : EReal)
      ∧ k0_pay12 (F := Ideal) acc5 W I acc6 (ix2 0 a) = BitVec.ofNat 32 k' := by
  have e5 : k0_pay11 (F := Ideal) acc5 W W (ix2 0 a) = if W (ix2 0 a) < acc5 (ix2 0 a) then W (ix2 0 a) else acc5 (ix2 0 a) := by
    pointwise [k0_pay11, k0_pay10, k0_pay9]
  have e6 : k0_pay12 (F := Ideal) acc5 W I acc6 (ix2 0 a) = if W (ix2 0 a) < acc5 (ix2 0 a) then I (ix2 0 a) else acc6 (ix2 0 a) := by
    pointwise [k0_pay12, k0_pay10, k0_pay9]
  simp only [hW, h5, EReal.coe_lt_coe_iff, add_lt_add_iff_left] at e5
  simp only [hW, h5, hI, h6, EReal.coe_lt_coe_iff, add_lt_add_iff_left] at e6
  refine ⟨_, hk.extend hr, ?_, ?_⟩
  · rw [e5]; split <;> rfl
  · rw [e6]; split <;> rfl

/-! ## What each point leaves, as a function of what the one before left -/

variable (m : (ℓ : Loc nD τ sig) → Buf (Elt Ideal) ℓ)

theorem idx_facts : ∀ t : Fin grid0.N, base (grid0.coords t) = BitVec.ofNat 32 (2736 * (t.val % 3))
    ∧ k0_off1 (grid0.coords t) 0 = 2736 * (t.val % 3) ∧ k0_off1 (grid0.coords t) 1 = 0
    ∧ win0_0.index t 0 = t.val / 3 ∧ win0_0.index t 1 = 0 ∧ win0_0.index t 2 = 0
    ∧ win0_1.index t 0 = 0 ∧ win0_1.index t 1 = 0 := by decide +kernel

/-- What a first window of a batch leaves. -/
theorem at_first (c : Dev nD) (t : Fin cfg0.N) (h : t.val % 3 = 0)
    (hkin : t.val ≠ 0 → (outsAt0 m c (t.val - 1) (Nat.lt_of_le_of_lt (Nat.sub_le ..) t.isLt)).2.2.2.1 = k0_pay17 (F := Ideal)) :
    (outsAt0 m c t.val t.isLt).2 = (k0_pay15 (iblk m c 0 t), k0_pay16 (iblk m c 0 t), k0_pay17 (F := Ideal),
      k0_pay7 (wv (win (grid0.coords t) (iblk m c 1 t)) (k0_pay15 (iblk m c 0 t)) (k0_pay16 (iblk m c 0 t))),
      k0_pay8 (F := Ideal) (wi (grid0.coords t) (win (grid0.coords t) (iblk m c 1 t)) (k0_pay15 (iblk m c 0 t)) (k0_pay16 (iblk m c 0 t)) (k0_pay17 (F := Ideal)))) := by
  by_cases h1 : t.val % 48 = 0
  · rw [outsAt0_A m c t h h1 h (by omega) (by omega)]
    dsimp only
    rw [sout0_A_0_eq, sout0_A_1_eq, sout0_A_2_eq, sout0_A_5_eq, sout0_A_6_eq]
  · rw [outsAt0_D m c t h h1 h (by omega) (by omega)]
    dsimp only
    have hk := hkin (fun h0 => h1 (by rw [h0]))
    rw [sout0_D_0_eq, sout0_D_1_eq, sout0_D_5_eq, sout0_D_6_eq]
    unfold sout0_D_2
    rw [hk]

/-- What a later window of a batch leaves: the scratch of the batch as it was, the accumulators updated. -/
theorem at_later (c : Dev nD) (t : Fin cfg0.N) (h : ¬t.val % 3 = 0) (xm : Vec Ideal S256x1024 .f32) (xq : Vec Ideal S1x1024 .f32)
    (kin : Vec Ideal S2736x1024 .f32) (acc5 : Vec Ideal S1x1024 .bf16) (acc6 : Vec Ideal S1x1024 .i32)
    (hp : (outsAt0 m c (t.val - 1) (Nat.lt_of_le_of_lt (Nat.sub_le ..) t.isLt)).2 = (xm, xq, kin, acc5, acc6)) :
    (outsAt0 m c t.val t.isLt).2 = (xm, xq, kin,
      k0_pay11 acc5 (wv (win (grid0.coords t) (iblk m c 1 t)) xm xq) (wv (win (grid0.coords t) (iblk m c 1 t)) xm xq),
      k0_pay12 acc5 (wv (win (grid0.coords t) (iblk m c 1 t)) xm xq) (wi (grid0.coords t) (win (grid0.coords t) (iblk m c 1 t)) xm xq kin) acc6) := by
  have h1 : ¬t.val % 48 = 0 := by omega
  by_cases h6 : t.val % 3 = 2
  · rw [outsAt0_C m c t h h1 h (by omega) h6]
    dsimp only
    rw [sout0_C_5_eq, sout0_C_6_eq, hp]
    rfl
  · rw [outsAt0_B m c t h h1 h (by omega) h6]
    dsimp only
    rw [sout0_B_5_eq, sout0_B_6_eq, hp]
    rfl

/-- The last window of a batch writes the index accumulator out. -/
theorem at_last (c : Dev nD) (t : Fin cfg0.N) (h : t.val % 3 = 2) :
    (outsAt0 m c t.val t.isLt).1 = k0_pay13 (F := Ideal) (outsAt0 m c t.val t.isLt).2.2.2.2.2 := by
  rw [outsAt0_C m c t (by omega) (by omega) (by omega) (by omega) h]
  dsimp only
  rw [out0_C_2_eq, sout0_C_6_eq]

theorem kin_kept (c : Dev nD) : ∀ (n : ℕ) (hn : n < cfg0.N), (outsAt0 m c n hn).2.2.2.1 = k0_pay17 (F := Ideal)
  | 0, hn => by rw [at_first m c ⟨0, hn⟩ rfl (fun h => absurd rfl h)]
  | n + 1, hn => by
    have ih := kin_kept c n (Nat.lt_of_succ_lt hn)
    by_cases h : (n + 1) % 3 = 0
    · rw [at_first m c ⟨n + 1, hn⟩ h (fun _ => ih)]
    · rw [at_later m c ⟨n + 1, hn⟩ h _ _ _ _ _ rfl]
      exact ih

/-! ## The blocks a point reads -/

theorem block_apply (c : Dev nD) (t : Fin cfg0.N) (b : Fin 16) (hb : b.val = t.val / 3) (d : Fin 256) (a : Fin 1024) :
    iblk m c 0 t (ix3 0 d a) = m ((c : Thread nD τ).loc main_arg0) (ix3 b d a) := by
  obtain ⟨-, -, -, e0, e1, e2, -, -⟩ := idx_facts t
  unfold iblk
  rw [View.read_apply]
  show V m c main_arg0 _ = _
  rw [V_main_arg0]
  congr 1
  funext x
  apply Fin.ext
  match x with
  | ⟨0, _⟩ => show win0_0.index t 0 * 1 + 1 * 0 = b.val; omega
  | ⟨1, _⟩ => show win0_0.index t 1 * 256 + 1 * d.val = d.val; omega
  | ⟨2, _⟩ => show win0_0.index t 2 * 1024 + 1 * a.val = a.val; omega

/-- The padded codebook. -/
def padded (e : Vec Ideal S8192x256 .f32) : Vec Ideal S8208x256 .f32 :=
  pad S8208x256 ![0, 0] ![16, 0] ![0, 0] e (sitofp (F := Ideal) .f32 (constantI S_ 32 0#32)) Gen.facts.pads_S8192x256_S8208x256_0160_000 h_S_

theorem padded_apply (e : Vec Ideal S8192x256 .f32) (r : Fin 8208) (d : Fin 256) :
    padded e (ix2 r d) = if h : r.val < 8192 then e (ix2 ⟨r.val, h⟩ d) else 0 := by
  pointwise [padded]
  have h0 : FloatOps.sitofp (F := Ideal) FTy.f32 (0#32) = (0 : EReal) := by
    show (((0#32 : BitVec 32).toInt : ℝ) : EReal) = 0
    simp
  rw [h0]

theorem V_codes (c : Dev nD) : V m c main_v0 = padded (m ((c : Thread nD τ).loc main_arg1)) := by
  show StableHlo.after (List.flatten [hostOps0, hostOps0_1]) (fun b => m (c, b)) (Proc.devRef .tc main_v0) = _
  simp only [hostOps0, hostOps0_1, List.flatten_cons, List.flatten_nil, List.append_nil, List.cons_append, List.nil_append]
  after_results
  rfl

theorem codes_block (c : Dev nD) (t : Fin cfg0.N) : iblk m c 1 t = padded (m ((c : Thread nD τ).loc main_arg1)) := by
  obtain ⟨-, -, -, -, -, -, e0, e1⟩ := idx_facts t
  rw [← V_codes]
  funext j
  unfold iblk
  rw [View.read_apply]
  show V m c main_v0 _ = _
  congr 1
  funext x
  apply Fin.ext
  match x with
  | ⟨0, _⟩ => show win0_1.index t 0 * 8208 + 1 * (j 0).val = (j 0).val; omega
  | ⟨1, _⟩ => show win0_1.index t 1 * 256 + 1 * (j 1).val = (j 1).val; omega

theorem win_apply (t : Fin cfg0.N) (E : Vec Ideal S8208x256 .f32) (r : Fin 2736) (d : Fin 256) (k : Fin 8208)
    (hk : k.val = 2736 * (t.val % 3) + r.val) : win (grid0.coords t) E (ix2 r d) = E (ix2 k d) := by
  obtain ⟨-, e0, e1, -⟩ := idx_facts t
  unfold win
  show E _ = _
  congr 1
  funext x
  apply Fin.ext
  match x with
  | ⟨0, _⟩ => show k0_off1 (grid0.coords t) 0 + 1 * r.val = k.val; omega
  | ⟨1, _⟩ => show k0_off1 (grid0.coords t) 1 + 1 * d.val = d.val; omega

end Cert.KernelIdeal.State
end
-- ==== Proof.Column.lean ====
/-
  The kernel's result at one column: the first code of the padded codebook with the least score.
-/
module

public import proofs.«01_k».proof.Proof.State

@[expose] public section

set_option maxRecDepth 16384

noncomputable section

namespace Cert.KernelIdeal.State

open Cert.KernelIdeal Cert.KernelIdeal.Gen Cert.KernelIdeal.Step Cert.KernelIdeal.Pick Cert.Pick
open Idealize.ShloMosaic Idealize.ShloMosaic.TcCoe

theorem coe_sum {ι : Type*} (t : Finset ι) (f : ι → ℝ) : ∑ i ∈ t, ((f i : ℝ) : EReal) = ((∑ i ∈ t, f i : ℝ) : EReal) := by
  classical
  induction t using Finset.induction_on with
  | empty => simp
  | insert i t hi ih => rw [Finset.sum_insert hi, Finset.sum_insert hi, ih, EReal.coe_add]

/-- The score of code `k` for the column `x`; a row past the codebook scores zero. -/
def score (er : Fin 8192 → Fin 256 → ℝ) (x : Fin 256 → ℝ) (k : ℕ) : ℝ :=
  if h : k < 8192 then ∑ d, er ⟨k, h⟩ d * (x d * (-2)) else 0

theorem sc_eq (t : Fin cfg0.N) (e : Vec Ideal S8192x256 .f32) (X : Vec Ideal S1x256x1024 .f32) (a : Fin 1024)
    (er : Fin 8192 → Fin 256 → ℝ) (x : Fin 256 → ℝ) (he : ∀ k d, e (ix2 k d) = ((er k d : ℝ) : EReal))
    (hx : ∀ d, X (ix3 0 d a) = ((x d : ℝ) : EReal)) (r : ℕ) (hr : r < 2736) :
    sc (win (grid0.coords t) (padded e)) (k0_pay15 X) a r = ((score er x (2736 * (t.val % 3) + r) : ℝ) : EReal) := by
  have hk : 2736 * (t.val % 3) + r < 8208 := by have := Nat.mod_lt t.val (show 3 > 0 by norm_num); omega
  have h15 : ∀ d, k0_pay15 X (ix2 d a) = ((x d * (-2) : ℝ) : EReal) := fun d => by
    rw [EReal.coe_mul, ← hx d, ← neg_two_val]
    pointwise [k0_pay15, k0_pay14]
  unfold sc score
  rw [dif_pos hr]
  simp only [h15, win_apply t (padded e) ⟨r, hr⟩ _ ⟨_, hk⟩ rfl, padded_apply]
  split
  · simp only [he, ← EReal.coe_mul]
    exact coe_sum _ _
  · simp

variable (m : (ℓ : Loc nD τ sig) → Buf (Elt Ideal) ℓ)

/-- What the accumulators hold in a column: the least of the first `n` scores and the first code that has it. -/
def Holds (acc5 : Vec Ideal S1x1024 .bf16) (acc6 : Vec Ideal S1x1024 .i32) (a : Fin 1024) (n : ℕ) (s : ℕ → ℝ) (q : ℝ) : Prop :=
  ∃ k, First n s k ∧ acc5 (ix2 0 a) = ((q + s k : ℝ) : EReal) ∧ acc6 (ix2 0 a) = BitVec.ofNat 32 k

theorem later (c : Dev nD) (t : Fin cfg0.N) (h : ¬t.val % 3 = 0) (X : Vec Ideal S1x256x1024 .f32)
    (acc5 : Vec Ideal S1x1024 .bf16) (acc6 : Vec Ideal S1x1024 .i32) (a : Fin 1024)
    (er : Fin 8192 → Fin 256 → ℝ) (x : Fin 256 → ℝ) (q : ℝ)
    (he : ∀ k d, m ((c : Thread nD τ).loc main_arg1) (ix2 k d) = ((er k d : ℝ) : EReal))
    (hx : ∀ d, X (ix3 0 d a) = ((x d : ℝ) : EReal)) (hq : k0_pay16 X (ix2 0 a) = (q : EReal))
    (hp : (outsAt0 m c (t.val - 1) (Nat.lt_of_le_of_lt (Nat.sub_le ..) t.isLt)).2
      = (k0_pay15 X, k0_pay16 X, k0_pay17 (F := Ideal), acc5, acc6))
    (hH : Holds acc5 acc6 a (2736 * (t.val % 3)) (score er x) q) :
    ∃ acc5' acc6', (outsAt0 m c t.val t.isLt).2 = (k0_pay15 X, k0_pay16 X, k0_pay17 (F := Ideal), acc5', acc6')
      ∧ Holds acc5' acc6' a (2736 * (t.val % 3) + 2736) (score er x) q := by
  obtain ⟨r, hr, hW, hI⟩ := window (grid0.coords t) (win (grid0.coords t) (iblk m c 1 t)) (k0_pay15 X) (k0_pay16 X) (k0_pay17 (F := Ideal)) a _
    (score er x) q (fun r hr => by rw [codes_block]; exact sc_eq t _ X a er x he hx r hr) hq (fun r => kin_apply r a) (idx_facts t).1
  obtain ⟨k, hk, h5, h6⟩ := hH
  exact ⟨_, _, at_later m c t h _ _ _ _ _ hp, update _ _ _ _ a _ _ _ _ q hk hr h5 h6 hW hI⟩

theorem first (c : Dev nD) (t : Fin cfg0.N) (h : t.val % 3 = 0) (a : Fin 1024)
    (er : Fin 8192 → Fin 256 → ℝ) (x : Fin 256 → ℝ) (q : ℝ)
    (he : ∀ k d, m ((c : Thread nD τ).loc main_arg1) (ix2 k d) = ((er k d : ℝ) : EReal))
    (hx : ∀ d, iblk m c 0 t (ix3 0 d a) = ((x d : ℝ) : EReal)) (hq : k0_pay16 (iblk m c 0 t) (ix2 0 a) = (q : EReal)) :
    ∃ acc5 acc6, (outsAt0 m c t.val t.isLt).2 = (k0_pay15 (iblk m c 0 t), k0_pay16 (iblk m c 0 t), k0_pay17 (F := Ideal), acc5, acc6)
      ∧ Holds acc5 acc6 a 2736 (score er x) q := by
  obtain ⟨r, hr, hW, hI⟩ := window (grid0.coords t) (win (grid0.coords t) (iblk m c 1 t)) (k0_pay15 (iblk m c 0 t))
    (k0_pay16 (iblk m c 0 t)) (k0_pay17 (F := Ideal)) a _ (score er x) q
    (fun r hr => by rw [codes_block]; exact sc_eq t _ _ a er x he hx r hr) hq (fun r => kin_apply r a) (idx_facts t).1
  refine ⟨_, _, at_first m c t h (fun _ => kin_kept m c _ _), r, ?_⟩
  rw [h, Nat.mul_zero, Nat.zero_add] at hW hI
  simp only [h, Nat.mul_zero, Nat.zero_add] at hr
  rw [(start _ (fun _ => 0)).1, (start (fun _ => (0 : EReal)) _).2]
  exact ⟨hr, hW, hI⟩

/-- What the kernel leaves in the result at (`b`, `a`). -/
theorem column (c : Dev nD) (b : Fin 16) (a : Fin 1024) (er : Fin 8192 → Fin 256 → ℝ) (x : Fin 256 → ℝ)
    (he : ∀ k d, m ((c : Thread nD τ).loc main_arg1) (ix2 k d) = ((er k d : ℝ) : EReal))
    (hx : ∀ d, m ((c : Thread nD τ).loc main_arg0) (ix3 b d a) = ((x d : ℝ) : EReal)) :
    ∃ k, First 8208 (score er x) k ∧ Value.G2 m c (ix3 b 0 a) = BitVec.ofNat 32 k := by
  have hN : cfg0.N = 48 := N_0
  have hb := b.isLt
  have h0 : 3 * b.val < cfg0.N := by omega
  have h1 : 3 * b.val + 1 < cfg0.N := by omega
  have h2 : 3 * b.val + 2 < cfg0.N := by omega
  have hX : ∀ d, iblk m c 0 ⟨3 * b.val, h0⟩ (ix3 0 d a) = ((x d : ℝ) : EReal) := fun d => by
    rw [block_apply m c ⟨3 * b.val, h0⟩ b (by show b.val = 3 * b.val / 3; omega) d a, hx d]
  have hq : k0_pay16 (iblk m c 0 ⟨3 * b.val, h0⟩) (ix2 0 a) = ((∑ d, x d * x d : ℝ) : EReal) := by
    rw [← coe_sum]
    simp only [EReal.coe_mul, ← hX]
    pointwise [k0_pay16, k0_pay14]
  obtain ⟨p5, p6, hp, H0⟩ := first m c ⟨3 * b.val, h0⟩ (by show 3 * b.val % 3 = 0; omega) a er x _ he hX hq
  obtain ⟨r5, r6, hr, H1⟩ := later m c ⟨3 * b.val + 1, h1⟩ (by show ¬(3 * b.val + 1) % 3 = 0; omega) _ p5 p6 a er x _ he hX hq hp
    (by rw [show (3 * b.val + 1) % 3 = 1 from by omega]; exact H0)
  obtain ⟨u5, u6, hu, H2⟩ := later m c ⟨3 * b.val + 2, h2⟩ (by show ¬(3 * b.val + 2) % 3 = 0; omega) _ r5 r6 a er x _ he hX hq hr
    (by rw [show (3 * b.val + 2) % 3 = 2 from by omega]; rw [show (3 * b.val + 1) % 3 = 1 from by omega] at H1; exact H1)
  rw [show (3 * b.val + 2) % 3 = 2 from by omega] at H2
  obtain ⟨k, hk, -, h6⟩ := H2
  refine ⟨k, hk, ?_⟩
  have hlast := at_last m c ⟨3 * b.val + 2, h2⟩ (by show (3 * b.val + 2) % 3 = 2; omega)
  rw [hu] at hlast
  have hpt : Value.pt2Of (ix3 b 0 a) = 3 * b.val + 2 := by
    show 3 * (1 * (b.val / 1 - 0) + 1 * (0 / 1 - 0) + 1 * (a.val / 1024 - 0)) + 2 = _
    have := a.isLt
    omega
  have hloc : Value.loc2Of (ix3 b 0 a) = ix3 0 0 a := by
    funext y
    apply Fin.ext
    match y with
    | ⟨0, _⟩ => show b.val % 1 = 0; omega
    | ⟨1, _⟩ => rfl
    | ⟨2, _⟩ => show a.val % 1024 = a.val; exact Nat.mod_eq_of_lt a.isLt
  unfold Value.G2
  rw [dif_pos (by rw [hpt]; exact h2), Value.fold0_congr m c _ _ (3 * b.val + 2) (by omega) hpt, ← Value.outsAt0_sweep m c _ h2, hlast, hloc, ← h6]
  pointwise [k0_pay13]

end Cert.KernelIdeal.State
end
-- ==== Proof.RefValue.lean ====
/-
  The references' results entry by entry: the argmin helper's fold of (distance, index) pairs ends on the first index of
  the least distance.
-/
module

public import proofs.«01_k».proof.Proof.Column

@[expose] public section

set_option maxRecDepth 16384

noncomputable section

namespace Cert.RefValue

open Idealize.ShloMosaic Cert.Pick

/-- A fold whose operation keeps one of its operands, and prefers `p` to everything it meets, ends on `p`. -/
theorem foldl_prefers {α : Type*} (f : α → α → α) (p : α) (hc : ∀ a b, f a b = a ∨ f a b = b) :
    ∀ (L : List α) (acc : α), (p ∈ L ∨ acc = p) → f acc p = p → (∀ x ∈ L, f x p = p ∧ f p x = p) → L.foldl f acc = p
  | [], acc, hp, _, _ => by
    rcases hp with h | h
    · cases h
    · exact h
  | x :: L, acc, hp, ha, hL => by
    have hx := hL x (List.mem_cons_self ..)
    refine foldl_prefers f p hc L (f acc x) ?_ ?_ fun y hy => hL y (List.mem_cons_of_mem _ hy)
    · rcases hp with h | h
      · rcases List.mem_cons.mp h with h | h
        · exact .inr (h ▸ ha)
        · exact .inl h
      · exact .inr (h ▸ hx.2)
    · rcases hc acc x with h | h
      · rw [h, ha]
      · rw [h, hx.1]

open Cert.ReferenceIdeal Cert.ReferenceIdeal.Gen

theorem argmin_eq (a b : Ideal .f32 × BitVec 32) : reducer_argmin_f32_i32 a b
    = if (a.1 : EReal) < b.1 ∨ ((a.1 : EReal) = b.1 ∧ a.2.slt b.2 = true) then a else b := by
  obtain ⟨v, i⟩ := a
  obtain ⟨w, j⟩ := b
  unfold reducer_argmin_f32_i32
  simp only [Ideal.cmpf_def, Ideal.cmp, IntOp.ori, IntOp.andi, IntOp.cmpi, Scalar.select]
  rcases lt_trichotomy (v : EReal) w with h | h | h
  · simp [h, h.ne]
  · subst h
    by_cases hs : i.slt j = true <;> simp [hs]
  · simp [h.not_gt, h.ne']

/-- The argmin of row `r`. -/
theorem argmin_row (x : Vec Ideal S16384x8192 .f32) (r : Fin 16384) (D : ℕ → ℝ)
    (hD : ∀ k : Fin 8192, x (ix2 r k) = ((D k : ℝ) : EReal)) (k : ℕ) (hk : First 8192 D k) :
    (Host.argReduce reducer_argmin_f32_i32 x (iotaInDim S16384x8192 32 1) (constant (F := Ideal) S_ .f32 0x7F800000#32)
      (constantI S_ 32 0#32) Gen.facts.reducesTo_S16384x8192_S16384_d1 h_S_ (ix1 r)).2 = BitVec.ofNat 32 k := by
  have hdrop : ∀ i : S16384x8192.Idx, Gen.facts.reducesTo_S16384x8192_S16384_d1.drop i = ix1 (i 0) := fun i => by
    funext y
    match y with
    | ⟨0, _⟩ => rfl
  have hslt : ∀ i j : Fin 8192, (BitVec.ofNat 32 i.val).slt (BitVec.ofNat 32 j.val) = decide (i.val < j.val) := fun i j => by
    have hi := i.isLt
    have hj := j.isLt
    rw [BitVec.slt, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega), decide_eq_decide, Nat.cast_lt]
  rw [Ideal.argReduce_eq_reduce2, Host.reduce2_eq_foldl_fiber,
    foldl_prefers reducer_argmin_f32_i32 ((((D k : ℝ) : EReal), BitVec.ofNat 32 k) : Ideal .f32 × BitVec 32)]
  · intro a b
    rw [argmin_eq]
    split
    · exact .inl rfl
    · exact .inr rfl
  · refine .inl ?_
    unfold Host.argReduceFiber
    rw [List.mem_map]
    refine ⟨S16384x8192.rowMajor (ix2 r ⟨k, hk.1⟩), ?_, ?_⟩
    · rw [List.mem_filter, Equiv.symm_apply_apply, hdrop]
      exact ⟨List.mem_finRange _, by simp⟩
    · rw [Equiv.symm_apply_apply, hD]
      rfl
  · rw [argmin_eq, if_neg]
    show ¬(Ideal.ofBits .f32 0x7F800000#32 < ((D k : ℝ) : EReal) ∨ (Ideal.ofBits .f32 0x7F800000#32 = ((D k : ℝ) : EReal) ∧ _))
    rw [Cert.KernelIdeal.Pick.top_val]
    simp
  · intro p hp
    unfold Host.argReduceFiber at hp
    rw [List.mem_map] at hp
    obtain ⟨n, hn, rfl⟩ := hp
    rw [List.mem_filter] at hn
    have hn2 := of_decide_eq_true hn.2
    generalize S16384x8192.rowMajor.symm n = i at hn2 ⊢
    rw [hdrop] at hn2
    obtain ⟨j, rfl⟩ : ∃ j : Fin 8192, i = ix2 r j := ⟨i 1, by
      have h0 : i 0 = r := congrFun hn2 0
      funext y
      match y with
      | ⟨0, _⟩ => exact h0
      | ⟨1, _⟩ => rfl⟩
    have hy : iotaInDim S16384x8192 32 1 (ix2 r j) = BitVec.ofNat 32 j.val := rfl
    rw [hD, hy, argmin_eq, argmin_eq]
    have h1 := hk.2.1 j j.isLt
    have h2 := hk.2.2 j
    have s1 := hslt j ⟨k, hk.1⟩
    have s2 := hslt ⟨k, hk.1⟩ j
    dsimp only at s1 s2 ⊢
    rw [s1, s2]
    simp only [EReal.coe_lt_coe_iff, EReal.coe_eq_coe_iff, decide_eq_true_eq]
    rcases lt_trichotomy j.val k with h | h | h
    · have := h2 h
      exact ⟨if_neg (by rintro (g | g); exacts [lt_asymm g this, this.ne' g.1]), if_pos (.inl this)⟩
    · rw [h]; simp
    · refine ⟨if_neg (by rintro (g | g); exacts [absurd g (not_lt.mpr h1), lt_asymm g.2 h]), if_pos ?_⟩
      rcases h1.lt_or_eq with g | g
      · exact .inl g
      · exact .inr ⟨g, h⟩

/-! ## The distances -/

variable (z : Vec Ideal S16x256x1024 .f32) (e : Vec Ideal S8192x256 .f32)

theorem two_val : Ideal.ofBits .f32 0x40000000#32 = ((2 : ℝ) : EReal) := by
  simp [Ideal.ofBits, Ideal.ieee, -EReal.coe_mul]; norm_num

/-- The flattened position of the column (`b`, `a`). -/
abbrev flat (b : Fin 16) (a : Fin 1024) : Fin 16384 := ⟨b.val * 1024 + a.val, by omega⟩

theorem flat_cast {α : Type} (g : S16384.Idx → α) (h : S16384.ShapeCasts S16x1x1024) (b : Fin 16) (a : Fin 1024) :
    shapeCast S16x1x1024 g h (ix3 b 0 a) = g (ix1 (flat b a)) := by
  pointwise

theorem rows_apply (b : Fin 16) (a : Fin 1024) (d : Fin 256) : Hand.rows z (ix2 (flat b a) d) = z (ix3 b d a) := by
  pointwise [Hand.rows]
  congr 2 <;> apply Fin.ext <;> show _ = _
  · show (b.val * 1024 + a.val) / 1024 = b.val
    omega
  · show (b.val * 1024 + a.val) % 1024 = a.val
    omega

theorem rows_same : Cert.NormFreeIdeal.Hand.rows z = Hand.rows z := rfl

theorem reducer_same : Cert.NormFreeIdeal.reducer_argmin_f32_i32 (F := Ideal) = reducer_argmin_f32_i32 := rfl

variable (er : Fin 8192 → Fin 256 → ℝ) (x : Fin 256 → ℝ) (b : Fin 16) (a : Fin 1024)

/-- The distance without the code's norm, and the code's norm. -/
def short (k : ℕ) : ℝ := if h : k < 8192 then (∑ d, x d * x d) - 2 * ∑ d, x d * er ⟨k, h⟩ d else 0
def norm (k : ℕ) : ℝ := if h : k < 8192 then ∑ d, er ⟨k, h⟩ d * er ⟨k, h⟩ d else 0

theorem short_apply (he : ∀ k d, e (ix2 k d) = ((er k d : ℝ) : EReal)) (hx : ∀ d, z (ix3 b d a) = ((x d : ℝ) : EReal)) (k : Fin 8192) :
    Cert.NormFreeIdeal.Hand.dist z e (ix2 (flat b a) k) = ((short er x k : ℝ) : EReal) := by
  have h : Cert.NormFreeIdeal.Hand.dist z e (ix2 (flat b a) k)
      = (∑ d, Hand.rows z (ix2 (flat b a) d) * Hand.rows z (ix2 (flat b a) d) : EReal)
        - Ideal.ofBits .f32 0x40000000#32 * ∑ d, Hand.rows z (ix2 (flat b a) d) * e (ix2 k d) := by
    rw [← rows_same]
    pointwise [Cert.NormFreeIdeal.Hand.dist]
  rw [h, two_val]
  simp only [rows_apply, hx, he, ← EReal.coe_mul, Cert.KernelIdeal.State.coe_sum, ← EReal.coe_sub]
  rw [short, dif_pos k.isLt]

theorem dist_apply (he : ∀ k d, e (ix2 k d) = ((er k d : ℝ) : EReal)) (hx : ∀ d, z (ix3 b d a) = ((x d : ℝ) : EReal)) (k : Fin 8192) :
    Hand.dist z e (ix2 (flat b a) k) = ((short er x k + norm er k : ℝ) : EReal) := by
  have h : Hand.dist z e (ix2 (flat b a) k)
      = (∑ d, Hand.rows z (ix2 (flat b a) d) * Hand.rows z (ix2 (flat b a) d) : EReal)
        - Ideal.ofBits .f32 0x40000000#32 * (∑ d, Hand.rows z (ix2 (flat b a) d) * e (ix2 k d)) + ∑ d, e (ix2 k d) * e (ix2 k d) := by
    pointwise [Hand.dist]
  rw [h, two_val]
  simp only [rows_apply, hx, he, ← EReal.coe_mul, Cert.KernelIdeal.State.coe_sum, ← EReal.coe_sub, ← EReal.coe_add]
  rw [short, norm, dif_pos k.isLt, dif_pos k.isLt]

theorem result_apply (he : ∀ k d, e (ix2 k d) = ((er k d : ℝ) : EReal)) (hx : ∀ d, z (ix3 b d a) = ((x d : ℝ) : EReal))
    (k : ℕ) (hk : First 8192 (fun k => short er x k + norm er k) k) : Hand.result z e (ix3 b 0 a) = BitVec.ofNat 32 k := by
  unfold Hand.result
  rw [flat_cast]
  exact argmin_row _ _ _ (dist_apply z e er x b a he hx) k hk

theorem short_result (he : ∀ k d, e (ix2 k d) = ((er k d : ℝ) : EReal)) (hx : ∀ d, z (ix3 b d a) = ((x d : ℝ) : EReal))
    (k : ℕ) (hk : First 8192 (short er x) k) : Cert.NormFreeIdeal.Hand.result z e (ix3 b 0 a) = BitVec.ofNat 32 k := by
  unfold Cert.NormFreeIdeal.Hand.result
  rw [flat_cast, reducer_same]
  exact argmin_row _ _ _ (short_apply z e er x b a he hx) k hk

end Cert.RefValue
end
-- ==== Proof.Masks.lean ====
/-
  What the precondition and the two masks say, entry by entry.
-/
module

public import proofs.«01_k».proof.Proof.RefValue
public import proofs.«01_k».proof.Proof.Gen.Pre_finite
public import proofs.«01_k».proof.Proof.Gen.On_clear
public import proofs.«01_k».proof.Proof.Gen.On_nonneg
public import Idealize.ShloMosaic.Lib.ReduceAll

@[expose] public section

set_option maxRecDepth 16384

noncomputable section

namespace Cert.Masks

open Idealize.ShloMosaic Cert.Pick Cert.On_clear Cert.On_clear.Gen
open Cert.KernelIdeal.State (score coe_sum)
open Cert.RefValue (flat flat_cast norm)

/-! ## The reductions of the masks -/

theorem zero_val : Ideal.ofBits .f32 0x00000000#32 = 0 := by simp [Ideal.ofBits, Ideal.ieee]
theorem bot_val : Ideal.ofBits .f32 0xFF800000#32 = ⊥ := by simp [Ideal.ofBits, Ideal.ieee]

theorem row_min (S : Vec Ideal S16384x8192 .f32) (h : S16384x8192.ReducesTo [1] S16384) (hu : 0 < S_.numel) (r : Fin 16384) :
    Host.reduce FloatOps.minimumf S (constant (F := Ideal) S_ .f32 0x7F800000#32) h hu (ix1 r)
      = Finset.univ.fold min ⊤ fun k : Fin 8192 => (S (ix2 r k) : EReal) := by
  rw [← Cert.KernelIdeal.Pick.top_val]
  pointwise

theorem row_sum (S : Vec Ideal S16384x8192 .f32) (h : S16384x8192.ReducesTo [1] S16384) (hu : 0 < S_.numel) (r : Fin 16384) :
    Host.reduceAdd S (constant (F := Ideal) S_ .f32 0x00000000#32) h hu (ix1 r) = ∑ k : Fin 8192, (S (ix2 r k) : EReal) := by
  pointwise

theorem all_min (v : Vec Ideal S8192 .f32) (h : S8192.ReducesTo [0] S_) (hu : 0 < S_.numel) (i : S_.Idx) :
    Host.reduce FloatOps.minimumf v (constant (F := Ideal) S_ .f32 0x7F800000#32) h hu i
      = Finset.univ.fold min ⊤ fun k : Fin 8192 => (v (ix1 k) : EReal) := by
  rw [← Cert.KernelIdeal.Pick.top_val]
  pointwise

theorem all_max (v : Vec Ideal S8192 .f32) (h : S8192.ReducesTo [0] S_) (hu : 0 < S_.numel) (i : S_.Idx) :
    Host.reduce FloatOps.maximumf v (constant (F := Ideal) S_ .f32 0xFF800000#32) h hu i
      = Finset.univ.fold max ⊥ fun k : Fin 8192 => (v (ix1 k) : EReal) := by
  rw [← bot_val]
  pointwise

theorem fold_min_real (f : Fin 8192 → ℝ) (k : Fin 8192) (hk : ∀ i, f k ≤ f i) :
    (Finset.univ.fold min ⊤ fun i => ((f i : ℝ) : EReal)) = ((f k : ℝ) : EReal) := by
  apply le_antisymm
  · rw [Finset.fold_min_le]
    exact .inr ⟨k, Finset.mem_univ _, le_rfl⟩
  · rw [Finset.le_fold_min]
    exact ⟨le_top, fun i _ => EReal.coe_le_coe_iff.mpr (hk i)⟩

theorem fold_max_real (f : Fin 8192 → ℝ) (k : Fin 8192) (hk : ∀ i, f i ≤ f k) :
    (Finset.univ.fold max ⊥ fun i => ((f i : ℝ) : EReal)) = ((f k : ℝ) : EReal) := by
  apply le_antisymm
  · rw [Finset.fold_max_le]
    exact ⟨bot_le, fun i _ => EReal.coe_le_coe_iff.mpr (hk i)⟩
  · rw [Finset.le_fold_max]
    exact .inr ⟨k, Finset.mem_univ _, le_rfl⟩

/-! ## The vectors the masks are made of -/

variable (z : Vec Ideal S16x256x1024 .f32) (e : Vec Ideal S8192x256 .f32)

def lead : FVec Ideal S16384x8192 .f32 :=
  mulf (Host.dotGeneral (φ₁ := .f32) (φ₂ := .f32) dot_S16384x256_S256x8192_S16384x8192_1_0_0_1_n_n none
      (shapeCast S16384x256 (transpose S16x1024x256 [0, 2, 1] z transposes_S16x256x1024_S16x1024x256_0_2_1) shapeCasts_S16x1024x256_S16384x256)
      (transpose S256x8192 [1, 0] e transposes_S8192x256_S256x8192_1_0))
    (broadcastInDim S16384x8192 ![] bcast_S_S16384x8192 (constant S_ .f32 0xC0000000#32))

def best (S : FVec Ideal S16384x8192 .f32) : FVec Ideal S16384 .f32 :=
  Host.reduce FloatOps.minimumf S (constant S_ .f32 0x7F800000#32) reducesTo_S16384x8192_S16384_d1 h_S_

def norms : FVec Ideal S8192 .f32 := Host.reduceAdd (mulf e e) (constant S_ .f32 0x00000000#32) reducesTo_S8192x256_S8192_d1 h_S_

def spread (v : FVec Ideal S8192 .f32) : FVec Ideal S_ .f32 :=
  subf (Host.reduce FloatOps.maximumf v (constant S_ .f32 0xFF800000#32) reducesTo_S8192_S_d0 h_S_)
    (Host.reduce FloatOps.minimumf v (constant S_ .f32 0x7F800000#32) reducesTo_S8192_S_d0 h_S_)

def low (B : FVec Ideal S16384 .f32) : IVec S16384 1 :=
  cmpf .ole B (broadcastInDim S16384 ![] bcast_S_S16384 (constant S_ .f32 0x00000000#32))

def count (S : FVec Ideal S16384x8192 .f32) (B : FVec Ideal S16384 .f32) (w : FVec Ideal S_ .f32) : FVec Ideal S16384 .f32 :=
  Host.reduceAdd (select (cmpf .ole S (broadcastInDim S16384x8192 ![0] bcast_S16384_S16384x8192_0
        (addf B (broadcastInDim S16384 ![] bcast_S_S16384 w))))
      (broadcastInDim S16384x8192 ![] bcast_S_S16384x8192 (constant S_ .f32 0x3F800000#32))
      (broadcastInDim S16384x8192 ![] bcast_S_S16384x8192 (constant S_ .f32 0x00000000#32)))
    (constant S_ .f32 0x00000000#32) reducesTo_S16384x8192_S16384_d1 h_S_

def sharp (C : FVec Ideal S16384 .f32) (w : FVec Ideal S_ .f32) : IVec S16384 1 :=
  ori (broadcastInDim S16384 ![] bcast_S_S16384 (cmpf .oeq w (constant S_ .f32 0x00000000#32)))
    (cmpf .oeq C (broadcastInDim S16384 ![] bcast_S_S16384 (constant S_ .f32 0x3F800000#32)))

variable (b : Fin 16) (a : Fin 1024)

theorem nonneg_eq : Cert.On_nonneg.fn (F := Ideal) z e (ix3 b 0 a) = low (best (lead z e)) (ix1 (flat b a)) := by
  unfold Cert.On_nonneg.fn
  dsimp only
  rw [flat_cast]
  rfl

theorem clear_eq : Cert.On_clear.fn (F := Ideal) z e (ix3 b 0 a)
    = andi (low (best (lead z e))) (sharp (count (lead z e) (best (lead z e)) (spread (norms e))) (spread (norms e))) (ix1 (flat b a)) := by
  unfold Cert.On_clear.fn Cert.On_clear.fn_part1
  dsimp only
  rw [flat_cast]
  rfl

variable (er : Fin 8192 → Fin 256 → ℝ) (x : Fin 256 → ℝ)

theorem lead_apply (he : ∀ k d, e (ix2 k d) = ((er k d : ℝ) : EReal)) (hx : ∀ d, z (ix3 b d a) = ((x d : ℝ) : EReal)) (k : Fin 8192) :
    lead z e (ix2 (flat b a) k) = ((score er x k : ℝ) : EReal) := by
  have h : lead z e (ix2 (flat b a) k)
      = (∑ d, Cert.ReferenceIdeal.Hand.rows z (ix2 (flat b a) d) * e (ix2 k d) : EReal) * Ideal.ofBits .f32 0xC0000000#32 := by
    have hr : Cert.ReferenceIdeal.Hand.rows z = shapeCast S16384x256 (transpose S16x1024x256 [0, 2, 1] z transposes_S16x256x1024_S16x1024x256_0_2_1) shapeCasts_S16x1024x256_S16384x256 := rfl
    unfold lead
    rw [← hr]
    pointwise
  rw [h, Cert.KernelIdeal.Pick.neg_two_val]
  simp only [Cert.RefValue.rows_apply, hx, he, ← EReal.coe_mul, coe_sum]
  rw [score, dif_pos k.isLt, Finset.sum_mul]
  congr 1
  exact Finset.sum_congr rfl fun d _ => by ring

theorem norms_apply (he : ∀ k d, e (ix2 k d) = ((er k d : ℝ) : EReal)) (k : Fin 8192) :
    norms e (ix1 k) = ((norm er k : ℝ) : EReal) := by
  have h : norms e (ix1 k) = (∑ d, e (ix2 k d) * e (ix2 k d) : EReal) := by
    pointwise [norms]
  rw [h]
  simp only [he, ← EReal.coe_mul, coe_sum]
  rw [Cert.RefValue.norm, dif_pos k.isLt]

/-! ## Comparisons read back -/

theorem le_of_ole {p q : EReal} (h : Ideal.cmp .ole p q = 1#1) : p ≤ q := by
  by_contra hn
  simp [Ideal.cmp, hn] at h

theorem ole_of_le {p q : EReal} (h : p ≤ q) : Ideal.cmp .ole p q = 1#1 := by simp [Ideal.cmp, h]

theorem ole_of_not_le {p q : EReal} (h : ¬ p ≤ q) : Ideal.cmp .ole p q = 0#1 := by simp [Ideal.cmp, h]

theorem eq_of_oeq {p q : EReal} (h : Ideal.cmp .oeq p q = 1#1) : p = q := by
  by_contra hn
  simp [Ideal.cmp, hn] at h

theorem lt_of_olt {p q : EReal} (h : Ideal.cmp .olt p q = 1#1) : p < q := by
  by_contra hn
  simp [Ideal.cmp, hn] at h

theorem or_one {p q : BitVec 1} (h : IntOp.ori p q = 1#1) : p = 1#1 ∨ q = 1#1 := by
  revert p q
  decide

/-! ## The precondition -/

theorem real_of_lt {v : EReal} (h : max v (-v) < ⊤) : v = ((v.toReal : ℝ) : EReal) := by
  refine (EReal.coe_toReal ?_ ?_).symm
  · rintro rfl
    simp at h
  · rintro rfl
    simp at h

theorem entry_real {s : Shape} (v : FVec Ideal s .f32) (h : S_.BroadcastsInDim s (![] : Fin 0 → Fin s.rank)) (i : s.Idx)
    (hv : cmpf .olt (Host.absf v) (broadcastInDim s ![] h (constant (F := Ideal) S_ .f32 0x7F800000#32)) i = 1#1) :
    v i = (((v i : EReal).toReal : ℝ) : EReal) := by
  have h1 : max (v i : EReal) (-v i) < Ideal.ofBits .f32 0x7F800000#32 := lt_of_olt hv
  rw [Cert.KernelIdeal.Pick.top_val] at h1
  exact real_of_lt h1

theorem finite (h : Cert.Pre_finite.fn (F := Ideal) z e = fun _ => 1#1) :
    (∀ i, z i = (((z i : EReal).toReal : ℝ) : EReal)) ∧ ∀ i, e i = (((e i : EReal).toReal : ℝ) : EReal) := by
  have h0 := congrFun h (Shape.Idx.first Cert.Pre_finite.Gen.h_S_)
  unfold Cert.Pre_finite.fn at h0
  dsimp only at h0
  have hs : Subsingleton Cert.Pre_finite.S_.Idx := ⟨fun p q => funext fun n => n.elim0⟩
  obtain ⟨hz, he⟩ := IntOp.andi_eq_one.1 h0
  exact ⟨fun i => entry_real z _ i (Host.reduce_andi_all _ _ _ _ _ hz i), fun i => entry_real e _ i (Host.reduce_andi_all _ _ _ _ _ he i)⟩

/-! ## The masks -/

theorem low_apply (B : FVec Ideal S16384 .f32) (r : Fin 16384) : low B (ix1 r) = Ideal.cmp .ole (B (ix1 r)) 0 := by
  pointwise [low]

theorem sharp_apply (C : FVec Ideal S16384 .f32) (w : FVec Ideal S_ .f32) (r : Fin 16384) :
    sharp C w (ix1 r) = IntOp.ori (Ideal.cmp .oeq (w ix0) 0) (Ideal.cmp .oeq (C (ix1 r)) 1) := by
  have h : sharp C w (ix1 r) = IntOp.ori (Ideal.cmp .oeq (w ix0) 0) (Ideal.cmp .oeq (C (ix1 r)) (Ideal.ofBits .f32 0x3F800000#32)) := by
    pointwise [sharp]
  rw [h, Cert.KernelIdeal.Pick.one_val]

theorem spread_apply (v : FVec Ideal S8192 .f32) (i : S_.Idx) :
    spread v i = (Finset.univ.fold max ⊥ fun k : Fin 8192 => (v (ix1 k) : EReal)) - (Finset.univ.fold min ⊤ fun k : Fin 8192 => (v (ix1 k) : EReal)) := by
  rw [← all_max v reducesTo_S8192_S_d0 h_S_ i, ← all_min v reducesTo_S8192_S_d0 h_S_ i]
  unfold spread
  generalize Host.reduce FloatOps.maximumf v (constant (F := Ideal) S_ .f32 0xFF800000#32) reducesTo_S8192_S_d0 h_S_ = p
  generalize Host.reduce FloatOps.minimumf v (constant (F := Ideal) S_ .f32 0x7F800000#32) reducesTo_S8192_S_d0 h_S_ = q
  rfl

theorem low_read (S : FVec Ideal S16384x8192 .f32) (s : ℕ → ℝ) (r : Fin 16384) (hS : ∀ k : Fin 8192, S (ix2 r k) = ((s k : ℝ) : EReal))
    (h : low (best S) (ix1 r) = 1#1) : ∃ i, i < 8192 ∧ s i ≤ 0 := by
  rw [low_apply] at h
  have h1 := le_of_ole h
  rw [best, row_min, Finset.fold_min_le] at h1
  rcases h1 with h1 | ⟨i, -, h1⟩
  · exact absurd h1 (by simp)
  · refine ⟨i, i.isLt, ?_⟩
    rw [hS i] at h1
    exact_mod_cast h1

theorem best_read (S : FVec Ideal S16384x8192 .f32) (s : ℕ → ℝ) (r : Fin 16384) (hS : ∀ k : Fin 8192, S (ix2 r k) = ((s k : ℝ) : EReal))
    (k : ℕ) (hk : First 8192 s k) : best S (ix1 r) = ((s k : ℝ) : EReal) := by
  rw [best, row_min]
  simp only [hS]
  exact fold_min_real (fun i => s i) ⟨k, hk.1⟩ fun i => hk.2.1 i i.isLt

theorem spread_read (v : FVec Ideal S8192 .f32) (f : ℕ → ℝ) (hv : ∀ k : Fin 8192, v (ix1 k) = ((f k : ℝ) : EReal)) :
    ∃ w : ℝ, (∀ i, spread v i = ((w : ℝ) : EReal)) ∧ ∀ i j, i < 8192 → j < 8192 → f i - f j ≤ w := by
  obtain ⟨p, -, hp⟩ := Finset.exists_max_image (Finset.univ : Finset (Fin 8192)) (fun i => f i) ⟨0, Finset.mem_univ _⟩
  obtain ⟨q, -, hq⟩ := Finset.exists_min_image (Finset.univ : Finset (Fin 8192)) (fun i => f i) ⟨0, Finset.mem_univ _⟩
  refine ⟨f p - f q, fun i => ?_, fun i j hi hj => ?_⟩
  · rw [spread_apply]
    simp only [hv]
    rw [fold_max_real (fun i => f i) p fun i => hp i (Finset.mem_univ _), fold_min_real (fun i => f i) q fun i => hq i (Finset.mem_univ _),
      EReal.coe_sub]
  · have h1 := hp ⟨i, hi⟩ (Finset.mem_univ _)
    have h2 := hq ⟨j, hj⟩ (Finset.mem_univ _)
    dsimp only at h1 h2
    linarith

open Classical in
theorem count_read (S : FVec Ideal S16384x8192 .f32) (B : FVec Ideal S16384 .f32) (v : FVec Ideal S_ .f32) (s : ℕ → ℝ) (m w : ℝ)
    (r : Fin 16384) (hS : ∀ k : Fin 8192, S (ix2 r k) = ((s k : ℝ) : EReal)) (hB : B (ix1 r) = ((m : ℝ) : EReal))
    (hv : ∀ i, v i = ((w : ℝ) : EReal)) :
    count S B v (ix1 r) = ((∑ k : Fin 8192, if s k ≤ m + w then (1 : ℝ) else 0 : ℝ) : EReal) := by
  rw [count, row_sum, ← coe_sum]
  refine Finset.sum_congr rfl fun k _ => ?_
  have h : (select (cmpf .ole S (broadcastInDim S16384x8192 ![0] bcast_S16384_S16384x8192_0
        (addf B (broadcastInDim S16384 ![] bcast_S_S16384 v))))
      (broadcastInDim S16384x8192 ![] bcast_S_S16384x8192 (constant (F := Ideal) S_ .f32 0x3F800000#32))
      (broadcastInDim S16384x8192 ![] bcast_S_S16384x8192 (constant (F := Ideal) S_ .f32 0x00000000#32))) (ix2 r k)
      = Scalar.select (Ideal.cmp .ole (S (ix2 r k)) (B (ix1 r) + v ix0 : EReal))
          (Ideal.ofBits .f32 0x3F800000#32) (Ideal.ofBits .f32 0x00000000#32) := by
    pointwise
  rw [h, hS, hB, hv, zero_val, Cert.KernelIdeal.Pick.one_val, ← EReal.coe_add]
  split_ifs with hc
  · rw [ole_of_le (EReal.coe_le_coe_iff.mpr hc)]
    simp [Scalar.select]
  · rw [ole_of_not_le (fun h => hc (EReal.coe_le_coe_iff.mp h))]
    simp [Scalar.select]

open Classical in
theorem count_one (s : ℕ → ℝ) (m : ℝ) (h : (∑ k : Fin 8192, if s k ≤ m then (1 : ℝ) else 0) = 1) (i j : ℕ) (hi : i < 8192) (hj : j < 8192)
    (hsi : s i ≤ m) (hsj : s j ≤ m) : i = j := by
  by_contra hne
  have hne' : (⟨i, hi⟩ : Fin 8192) ≠ ⟨j, hj⟩ := fun h => hne (Fin.mk.inj_iff.mp h)
  have h2 : (∑ k ∈ ({⟨i, hi⟩, ⟨j, hj⟩} : Finset (Fin 8192)), if s k ≤ m then (1 : ℝ) else 0)
      ≤ ∑ k : Fin 8192, if s k ≤ m then (1 : ℝ) else 0 := by
    refine Finset.sum_le_sum_of_subset_of_nonneg (Finset.subset_univ _) fun k _ _ => ?_
    split_ifs <;> norm_num
  rw [Finset.sum_pair hne', h] at h2
  simp only [hsi, hsj, if_true] at h2
  norm_num at h2

/-- Where `nonneg` holds, some true codeword scores at most zero. -/
theorem nonneg_read (he : ∀ k d, e (ix2 k d) = ((er k d : ℝ) : EReal)) (hx : ∀ d, z (ix3 b d a) = ((x d : ℝ) : EReal))
    (h : Cert.On_nonneg.fn (F := Ideal) z e (ix3 b 0 a) = 1#1) : ∃ i, i < 8192 ∧ score er x i ≤ 0 := by
  rw [nonneg_eq] at h
  exact low_read _ _ _ (lead_apply z e b a er x he hx) h

/-- Where `clear` holds, too, some true codeword scores at most zero. -/
theorem nonneg_of_clear (he : ∀ k d, e (ix2 k d) = ((er k d : ℝ) : EReal)) (hx : ∀ d, z (ix3 b d a) = ((x d : ℝ) : EReal))
    (h : Cert.On_clear.fn (F := Ideal) z e (ix3 b 0 a) = 1#1) : ∃ i, i < 8192 ∧ score er x i ≤ 0 := by
  rw [clear_eq] at h
  exact low_read _ _ _ (lead_apply z e b a er x he hx) (IntOp.andi_eq_one.1 h).1

/-- Where `clear` holds, either all codewords have one norm or no second codeword scores within the spread of the norms of the
    best one. -/
theorem clear_read (he : ∀ k d, e (ix2 k d) = ((er k d : ℝ) : EReal)) (hx : ∀ d, z (ix3 b d a) = ((x d : ℝ) : EReal))
    (h : Cert.On_clear.fn (F := Ideal) z e (ix3 b 0 a) = 1#1) (k : ℕ) (hk : First 8192 (score er x) k) :
    ∃ w : ℝ, (∀ i j, i < 8192 → j < 8192 → norm er i - norm er j ≤ w)
      ∧ (w = 0 ∨ ∀ i, i < 8192 → score er x i ≤ score er x k + w → i = k) := by
  rw [clear_eq] at h
  have hS := lead_apply z e b a er x he hx
  obtain ⟨-, h2⟩ := IntOp.andi_eq_one.1 h
  rw [sharp_apply] at h2
  obtain ⟨w, hw, hb⟩ := spread_read (norms e) (norm er) (norms_apply e er he)
  refine ⟨w, hb, ?_⟩
  rcases or_one h2 with h3 | h3
  · left
    have h4 := eq_of_oeq h3
    rw [hw] at h4
    exact_mod_cast h4
  · right
    intro i hi hs
    have h4 := eq_of_oeq h3
    rw [count_read _ _ _ (score er x) (score er x k) w _ hS (best_read _ _ _ hS k hk) hw] at h4
    have h5 := hb 0 0 (by norm_num) (by norm_num)
    exact count_one _ _ (by exact_mod_cast h4) i k hi hk.1 hs (by linarith)

end Cert.Masks
end
-- ==== Proof.Equations.lean ====
/-
  The kernel's result against the two programs it is compared with, entry by entry, and the two claims on values.
-/
module

public import proofs.«01_k».proof.Defs
public import proofs.«01_k».proof.Proof.Masks

@[expose] public section

set_option maxRecDepth 16384

noncomputable section

namespace Cert.Equations

open Idealize.ShloMosaic Idealize.SL.Sem Cert.Pick
open Cert.KernelIdeal.State (score column)
open Cert.RefValue (short short_result result_apply)

variable (er : Fin 8192 → Fin 256 → ℝ) (x : Fin 256 → ℝ)

/-- A true codeword's short distance is its score up by the latent's own squared norm. -/
theorem short_eq (k : ℕ) (hk : k < 8192) : short er x k = (∑ d, x d * x d) + score er x k := by
  have h : score er x k = -(2 * ∑ d, x d * er ⟨k, hk⟩ d) := by
    rw [score, dif_pos hk, Finset.mul_sum, ← Finset.sum_neg_distrib]
    exact Finset.sum_congr rfl fun d _ => by ring
  rw [h, short, dif_pos hk, sub_eq_add_neg]

theorem score_pad (k : ℕ) (hk : 8192 ≤ k) : score er x k = 0 := by rw [score, dif_neg (by omega)]

/-- The zero rows of padding lose where some true codeword scores at most zero. -/
theorem first_score (k : ℕ) (hk : First 8208 (score er x) k) (hex : ∃ i, i < 8192 ∧ score er x i ≤ 0) : First 8192 (score er x) k :=
  hk.restrict (by norm_num) (fun i h _ => score_pad er x i h) hex

theorem first_short (k : ℕ) (hk : First 8192 (score er x) k) : First 8192 (short er x) k :=
  hk.congr fun i j hi hj => by rw [short_eq er x i hi, short_eq er x j hj, add_le_add_iff_left]

theorem first_full (k : ℕ) (hk : First 8192 (score er x) k)
    (h : ∃ w : ℝ, (∀ i j, i < 8192 → j < 8192 → Cert.RefValue.norm er i - Cert.RefValue.norm er j ≤ w)
      ∧ (w = 0 ∨ ∀ i, i < 8192 → score er x i ≤ score er x k + w → i = k)) :
    First 8192 (fun k => short er x k + Cert.RefValue.norm er k) k := by
  obtain ⟨w, hw, h | h⟩ := h
  · refine (first_short er x k hk).add_const fun i j hi hj => le_antisymm ?_ ?_
    · have := hw i j hi hj
      linarith
    · have := hw j i hj hi
      linarith
  · refine (first_short er x k hk).add_within hw fun i hi hs => h i hi ?_
    rw [short_eq er x i hi, short_eq er x k hk.1] at hs
    linarith

theorem every_index (i : (⟨3, ![16, 1, 1024]⟩ : Shape).Idx) : ∃ (b : Fin 16) (a : Fin 1024), i = ix3 b 0 a := by
  refine ⟨i 0, i 2, funext fun n => ?_⟩
  match n with
  | ⟨0, _⟩ => rfl
  | ⟨1, _⟩ => exact Fin.ext (by have := (i 1).isLt; show (i 1).val = 0; change (i 1).val < 1 at this; omega)
  | ⟨2, _⟩ => rfl

open Cert.KernelIdeal in
theorem clear_value (m : (ℓ : Loc nD τ sig) → Buf (Elt Ideal) ℓ) (c : Dev nD)
    (hf : Cert.Pre_finite.fn (F := Ideal) (m ((c.tc : Thread nD τ).loc main_arg0)) (m ((c.tc : Thread nD τ).loc main_arg1)) = fun _ => 1#1)
    (i : (⟨3, ![16, 1, 1024]⟩ : Shape).Idx)
    (h : Cert.On_clear.fn (F := Ideal) (m ((c.tc : Thread nD τ).loc main_arg0)) (m ((c.tc : Thread nD τ).loc main_arg1)) i = 1#1) :
    Cert.ReferenceIdeal.Hand.result (F := Ideal) (m ((c.tc : Thread nD τ).loc main_arg0)) (m ((c.tc : Thread nD τ).loc main_arg1)) i
      = Value.G2 m c i := by
  obtain ⟨b, a, rfl⟩ := every_index i
  obtain ⟨hz, he⟩ := Cert.Masks.finite _ _ hf
  obtain ⟨k, hk, hg⟩ := column m c b a _ _ (fun k d => he (ix2 k d)) (fun d => hz (ix3 b d a))
  have hex := Cert.Masks.nonneg_of_clear _ _ b a _ _ (fun k d => he (ix2 k d)) (fun d => hz (ix3 b d a)) h
  have hk' := first_score _ _ k hk hex
  have hn := Cert.Masks.clear_read _ _ b a _ _ (fun k d => he (ix2 k d)) (fun d => hz (ix3 b d a)) h k hk'
  rw [hg]
  exact result_apply _ _ _ _ b a (fun k d => he (ix2 k d)) (fun d => hz (ix3 b d a)) k (first_full _ _ k hk' hn)

open Cert.KernelIdeal in
theorem nonneg_value (m : (ℓ : Loc nD τ sig) → Buf (Elt Ideal) ℓ) (c : Dev nD)
    (hf : Cert.Pre_finite.fn (F := Ideal) (m ((c.tc : Thread nD τ).loc main_arg0)) (m ((c.tc : Thread nD τ).loc main_arg1)) = fun _ => 1#1)
    (i : (⟨3, ![16, 1, 1024]⟩ : Shape).Idx)
    (h : Cert.On_nonneg.fn (F := Ideal) (m ((c.tc : Thread nD τ).loc main_arg0)) (m ((c.tc : Thread nD τ).loc main_arg1)) i = 1#1) :
    Cert.NormFreeIdeal.Hand.result (F := Ideal) (m ((c.tc : Thread nD τ).loc main_arg0)) (m ((c.tc : Thread nD τ).loc main_arg1)) i
      = Value.G2 m c i := by
  obtain ⟨b, a, rfl⟩ := every_index i
  obtain ⟨hz, he⟩ := Cert.Masks.finite _ _ hf
  obtain ⟨k, hk, hg⟩ := column m c b a _ _ (fun k d => he (ix2 k d)) (fun d => hz (ix3 b d a))
  have hex := Cert.Masks.nonneg_read _ _ b a _ _ (fun k d => he (ix2 k d)) (fun d => hz (ix3 b d a)) h
  rw [hg]
  exact short_result _ _ _ _ b a (fun k d => he (ix2 k d)) (fun d => hz (ix3 b d a)) k (first_short _ _ k (first_score _ _ k hk hex))

/-- The kernel against the reference. -/
theorem reference_claim : Cert.algebraic_KernelIdeal_ReferenceIdeal_on_clear_pre_finite := by
  intro m g m' g' hf ha
  refine ⟨fun c => Cert.KernelIdeal.Value.G2 m c, ?_, ?_⟩
  · refine (θ_run _ _ _).mono (fun r h c => ?_) (Cert.KernelIdeal.Value.run m g)
    exact ⟨fun i _ => congrFun (h c).1 i, (h c).2.1, (h c).2.2⟩
  · refine (θ_run _ _ _).mono (fun r h c => ?_) (Cert.ReferenceIdeal.Hand.run m' g')
    refine ⟨fun i hi => ?_, (h c).2.1, (h c).2.2⟩
    rw [(h c).1, (ha c).1, (ha c).2]
    exact clear_value m c (hf c) i hi

/-- The kernel against the distances without the codewords' norms. -/
theorem norm_free_claim : Cert.algebraic_KernelIdeal_NormFreeIdeal_on_nonneg_pre_finite := by
  intro m g m' g' hf ha
  refine ⟨fun c => Cert.KernelIdeal.Value.G2 m c, ?_, ?_⟩
  · refine (θ_run _ _ _).mono (fun r h c => ?_) (Cert.KernelIdeal.Value.run m g)
    exact ⟨fun i _ => congrFun (h c).1 i, (h c).2.1, (h c).2.2⟩
  · refine (θ_run _ _ _).mono (fun r h c => ?_) (Cert.NormFreeIdeal.Hand.run m' g')
    refine ⟨fun i hi => ?_, (h c).2.1, (h c).2.2⟩
    rw [(h c).1, (ha c).1, (ha c).2]
    exact nonneg_value m c (hf c) i hi

end Cert.Equations
end
-- ==== Proof.lean ====
/- The claims of the certificate, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.NormFreeIdeal
public import proofs.«01_k».proof.Proof.Gen.Pre_finite
public import proofs.«01_k».proof.Proof.Gen.On_clear
public import proofs.«01_k».proof.Proof.Gen.On_nonneg
public import proofs.«01_k».proof.Proof.Equations
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.NormFreeIdeal.Gen.facts, Cert.Pre_finite.Gen.facts, Cert.On_clear.Gen.facts, Cert.On_nonneg.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Hand.frame m ρ, fun m ρ _ => Cert.ReferenceIdeal.Hand.frame m ρ,
  fun m ρ _ => Cert.NormFreeIdeal.Hand.frame m ρ, fun m ρ _ => Cert.NormFreeIdeal.Hand.frame m ρ,
  trivial, Cert.Equations.reference_claim, Cert.Equations.norm_free_claim⟩

end Cert.Proof

end
